-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16777216 : Shape := ⟨1, ![16777216]⟩
abbrev S131072 : Shape := ⟨1, ![131072]⟩
abbrev S130944 : Shape := ⟨1, ![130944]⟩
abbrev S128 : Shape := ⟨1, ![128]⟩
abbrev S_ : Shape := ⟨0, ![]⟩
abbrev S16 : Shape := ⟨1, ![16]⟩

abbrev nBuf : Table → Nat
  | .hbm => 2
  | .shared => 15
  | .local .scVector .vmem => 1
  | _ => 0

abbrev bufTy : (tb : Table) → Fin (nBuf tb) → BufTy
  | .hbm, ⟨0, _⟩ => ⟨S16777216, .f32⟩
  | .hbm, ⟨1, _⟩ => ⟨S16777216, .f32⟩
  | .shared, ⟨0, _⟩ => ⟨S131072, .f32⟩
  | .shared, ⟨1, _⟩ => ⟨S131072, .f32⟩
  | .shared, ⟨2, _⟩ => ⟨S131072, .f32⟩
  | .shared, ⟨3, _⟩ => ⟨S131072, .f32⟩
  | .shared, ⟨4, _⟩ => ⟨S131072, .f32⟩
  | .shared, ⟨5, _⟩ => ⟨S131072, .f32⟩
  | .shared, ⟨6, _⟩ => ⟨S131072, .f32⟩
  | .shared, ⟨7, _⟩ => ⟨S131072, .f32⟩
  | .shared, ⟨8, _⟩ => ⟨S131072, .f32⟩
  | .shared, ⟨9, _⟩ => ⟨S131072, .f32⟩
  | .shared, ⟨10, _⟩ => ⟨S131072, .f32⟩
  | .shared, ⟨11, _⟩ => ⟨S131072, .f32⟩
  | .shared, ⟨12, _⟩ => ⟨S131072, .f32⟩
  | .shared, ⟨13, _⟩ => ⟨S131072, .f32⟩
  | .shared, ⟨14, _⟩ => ⟨S130944, .f32⟩
  | .local .scVector .vmem, ⟨0, _⟩ => ⟨S128, .f32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev cc0_scratch1 : Ref sig .scScalar := ⟨.shared, 1, rfl⟩
abbrev cc0_scratch2 : Ref sig .scScalar := ⟨.shared, 2, rfl⟩
abbrev cc0_scratch3 : Ref sig .scScalar := ⟨.shared, 3, rfl⟩
abbrev cc0_scratch4 : Ref sig .scScalar := ⟨.shared, 4, rfl⟩
abbrev cc0_scratch5 : Ref sig .scScalar := ⟨.shared, 5, rfl⟩
abbrev cc0_scratch6 : Ref sig .scScalar := ⟨.shared, 6, rfl⟩
abbrev cc0_scratch7 : Ref sig .scScalar := ⟨.shared, 7, rfl⟩
abbrev cc0_scratch8 : Ref sig .scScalar := ⟨.shared, 8, rfl⟩
abbrev cc0_scratch9 : Ref sig .scScalar := ⟨.shared, 9, rfl⟩
abbrev cc0_scratch10 : Ref sig .scScalar := ⟨.shared, 10, rfl⟩
abbrev cc0_scratch11 : Ref sig .scScalar := ⟨.shared, 11, rfl⟩
abbrev cc0_scratch12 : Ref sig .scScalar := ⟨.shared, 12, rfl⟩
abbrev cc0_scratch13 : Ref sig .scScalar := ⟨.shared, 13, rfl⟩
abbrev cc0_scratch14 : Ref sig .scScalar := ⟨.shared, 14, rfl⟩
abbrev cc0_scoped0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32_r0 : BitVec 32 := 0#32
  let v1_r0 : BitVec 1 := Scalar.cmpi .eq arg1 c0_i32_r0
  let v2_r0 : BitVec 32 := Scalar.extui v1_r0
  let c0_i32_0_r0 : BitVec 32 := 0#32
  let v3_r0 : BitVec 1 := Scalar.cmpi .ne v2_r0 c0_i32_0_r0
  v3_r0

def k0_off1 (i : grid0.Coords) : Fin 1 → Nat :=
  let arg0 : BitVec 32 := BitVec.ofNat 32 (i 0).val
  let c8388608_i32_r0 : BitVec 32 := 8388608#32
  let v0_r0 : BitVec 32 := Scalar.muli arg0 c8388608_i32_r0
  ![v0_r0.toNat]
abbrev grid1 : Pipeline.Grid := ⟨1, ![2], ![false]⟩

def k1_off1 (i : grid1.Coords) : Fin 1 → Nat :=
  let arg0 : BitVec 32 := BitVec.ofNat 32 (i 0).val
  let c8388608_i32_r0 : BitVec 32 := 8388608#32
  let v30_r0 : BitVec 32 := Scalar.muli arg0 c8388608_i32_r0
  let c128_i32_r0 : BitVec 32 := 128#32
  let v31_r0 : BitVec 32 := Scalar.addi v30_r0 c128_i32_r0
  ![v31_r0.toNat]
def k1_off2 (i : grid1.Coords) (c131072_i32_r0 : BitVec 32) : Fin 1 → Nat :=
  let arg0 : BitVec 32 := BitVec.ofNat 32 (i 0).val
  let c8388608_i32_r0 : BitVec 32 := 8388608#32
  let v30_r0 : BitVec 32 := Scalar.muli arg0 c8388608_i32_r0
  let v33_r0 : BitVec 32 := Scalar.addi v30_r0 c131072_i32_r0
  ![v33_r0.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16777216 : Shape := ⟨1, ![16777216]⟩
abbrev S4 : Shape := ⟨1, ![4]⟩
abbrev S_ : Shape := ⟨0, ![]⟩
abbrev S4x1 : Shape := ⟨2, ![4, 1]⟩

abbrev nBuf : Space → Nat
  | .hbm => 12
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S4, .i32⟩
  | .hbm, ⟨2, _⟩ => ⟨S4, .f32⟩
  | .hbm, ⟨3, _⟩ => ⟨S_, .i32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Pipe.lean ====
/-
  The sequencer's program as a schedule: a list of copies started and copies waited for, at a symbolic core, equal to the printed body.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

variable {F : FTy → Type}

/-- The number of words of chunk `k`: the first one starts past the 128 words a tile moves. -/
def chLen : ℕ → ℕ
  | 0 => 130944
  | _ + 1 => 131072

/-- The extent of chunk `k`. -/
abbrev chShape (k : ℕ) : Shape := ⟨1, ![chLen k]⟩

/-- The fourteen shared buffers of full extent, in the order the kernel holds them. -/
def ring : Fin 14 → Memref sig .scScalar .shared S131072 .f32
  | 0 => Memref.whole cc0_scratch0
  | 1 => Memref.whole cc0_scratch1
  | 2 => Memref.whole cc0_scratch2
  | 3 => Memref.whole cc0_scratch3
  | 4 => Memref.whole cc0_scratch4
  | 5 => Memref.whole cc0_scratch5
  | 6 => Memref.whole cc0_scratch6
  | 7 => Memref.whole cc0_scratch7
  | 8 => Memref.whole cc0_scratch8
  | 9 => Memref.whole cc0_scratch9
  | 10 => Memref.whole cc0_scratch10
  | 11 => Memref.whole cc0_scratch11
  | 12 => Memref.whole cc0_scratch12
  | 13 => Memref.whole cc0_scratch13

/-- The shared buffer chunk `k` goes through. -/
def buf : (k : ℕ) → Memref sig .scScalar .shared (chShape k) .f32
  | 0 => Memref.whole cc0_scratch14
  | k + 1 => ring (Fin.ofNat 14 (k + 1))

/-- Where chunk `k` starts, for the sequencer at grid point `i`. -/
def chOff (i : grid1.Coords) : Fin 64 → Fin 1 → ℕ
  | ⟨0, _⟩ => k1_off1 i
  | ⟨k + 1, _⟩ => k1_off2 i (BitVec.ofNat 32 (131072 + 131072 * k))

/-- Every chunk lies inside the array. -/
theorem chOff_inb (i : grid1.Coords) : ∀ (k : Fin 64) (a : Fin 1), chOff i k a + (chShape k.val).size a ≤ S16777216.size a
  | ⟨0, _⟩ => k1_off1_inb i
  | ⟨k + 1, h⟩ => k1_off2_inb i ⟨k, Nat.lt_of_succ_lt_succ h⟩

/-- The words of chunk `k`. -/
abbrev chRect (i : grid1.Coords) (k : Fin 64) : Rect S16777216 :=
  Rect.unit (s := S16777216) (chOff i k) (chShape k.val).size (chOff_inb i k)

/-- Chunk `k` of an HBM array. -/
abbrev chunk (i : grid1.Coords) (a : Memref sig .scScalar .hbm S16777216 .f32) (k : Fin 64) : Memref sig .scScalar .hbm (chShape k.val) .f32 :=
  a.slice (chRect i k) (fun _ => rfl)

/-- The semaphore chunk `k`'s copy in completes on. -/
def semIn (k : ℕ) : DmaSem sig := Fin.ofNat 32 (if k = 0 then 30 else 2 + k % 14)
/-- The semaphore chunk `k`'s copy out completes on. -/
def semOut (k : ℕ) : DmaSem sig := Fin.ofNat 32 (if k = 0 then 31 else 16 + k % 14)

/-- The four things the sequencer does to a chunk. -/
inductive Ev where
  | startIn (k : Fin 64)
  | waitIn (k : Fin 64)
  | startOut (k : Fin 64)
  | waitOut (k : Fin 64)

/-- The sequencer's core. -/
abbrev cS (i : grid1.Coords) : Fin τ.nSC := (i 0).castLE hcore1

/-- The arrays as the sequencer names them. -/
abbrev xS : Memref sig .scScalar .hbm S16777216 .f32 := Memref.whole main_arg0_scs
abbrev oS : Memref sig .scScalar .hbm S16777216 .f32 := Memref.whole main_v0_scs

/-- Chunk `k` of the argument and of the result. -/
abbrev chunkX (i : grid1.Coords) (k : Fin 64) := chunk i xS k
abbrev chunkO (i : grid1.Coords) (k : Fin 64) := chunk i oS k

/-- One of them as a statement of the program. -/
def evOp (i : grid1.Coords) : Ev → Prog (TpuEff nD τ sig (Elt F) Λ₀ (.scScalar (cS i))) PUnit
  | .startIn k => Prog.lift (.enqueueDma (chunkX i k) (.here (buf k.val)) (.dma (semIn k.val)) (View.wordExact_bits rfl) (View.wordExact_bits rfl) ⟨Or.inl rfl, trivial⟩)
  | .waitIn k => Prog.lift (.waitDma2 (semIn k.val) (chunkX i k) (buf k.val) (View.wordExact_bits rfl) (View.wordExact_bits rfl))
  | .startOut k => Prog.lift (.enqueueDma (buf k.val) (.here (chunkO i k)) (.dma (semOut k.val)) (View.wordExact_bits rfl) (View.wordExact_bits rfl) ⟨Or.inl rfl, trivial⟩)
  | .waitOut k => Prog.lift (.waitDma2 (semOut k.val) (buf k.val) (chunkO i k) (View.wordExact_bits rfl) (View.wordExact_bits rfl))

/-- A list of them, in order. -/
def evProg (i : grid1.Coords) : List Ev → Prog (TpuEff nD τ sig (Elt F) Λ₀ (.scScalar (cS i))) PUnit
  | [] => pure ⟨⟩
  | e :: es => evOp i e >>= fun _ => evProg i es

/-- What is done at chunk `k` of the main loop: it is taken off its way in and sent out, and the chunk seven further is
    started on its way in, once the buffer it needs is free again. -/
def visit (k : ℕ) : List Ev :=
  [.waitIn (Fin.ofNat 64 k), .startOut (Fin.ofNat 64 k)]
    ++ if k + 7 < 64 then (if 14 ≤ k + 7 then [.waitOut (Fin.ofNat 64 (k - 7))] else []) ++ [.startIn (Fin.ofNat 64 (k + 7))] else []

/-- The whole schedule: seven chunks started ahead, the main loop, the last fourteen copies out waited for. -/
def sched : List Ev :=
  ((List.range 7).map fun k => Ev.startIn (Fin.ofNat 64 k)) ++ (List.range 64).flatMap visit
    ++ (List.range 14).map fun k => Ev.waitOut (Fin.ofNat 64 (50 + k))

set_option maxRecDepth 100000 in
/-- The printed body of the sequencer is the schedule. -/
theorem scalar_eq (i : grid1.Coords) :
    cc1__scalar_body (F := F) i xS (Memref.isWhole_whole _) oS (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _)
      (Memref.whole cc0_scratch12) (Memref.isWhole_whole _) (Memref.whole cc0_scratch13) (Memref.isWhole_whole _) (Memref.whole cc0_scratch14) (Memref.isWhole_whole _)
      cc1_scoped0 cc1_scoped1 cc1_scoped2 cc1_scoped3 cc1_scoped4 cc1_scoped5 cc1_scoped6 cc1_scoped7 cc1_scoped8 cc1_scoped9
      cc1_scoped10 cc1_scoped11 cc1_scoped12 cc1_scoped13 cc1_scoped14 cc1_scoped15 cc1_scoped16 cc1_scoped17 cc1_scoped18 cc1_scoped19
      cc1_scoped20 cc1_scoped21 cc1_scoped22 cc1_scoped23 cc1_scoped24 cc1_scoped25 cc1_scoped26 cc1_scoped27 cc1_scoped28 cc1_scoped29
    = evProg i sched := rfl

end Cert.Proof
end
-- ==== Proof.Setup.lean ====
/-
  The launch's parameters, the function `gold` that the kernel computes, and the pieces of the two arrays.
-/
module

public import proofs.«01_k».proof.Proof.Pipe
public import Idealize.ShloMosaic.Lib.SparseCore.TwoBodyPrinted
public import Idealize.ShloMosaic.Lib.SparseCore.Ops
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem reads it -/

abbrev ΛP : Labels := Pipeline.Sig Λ₀ (Fin 0) fun p => (pcfgs (F := F) p).Adm
/-- The launch without its sequencers' function. -/
abbrev K : SparseCore.Cfg τ sig (ΛP (F := F)) 1 := (sc (F := F)).noSeq
/-- The sequencers' function. -/
abbrev σ : (q : Fin 1) → Option (Σ ℓ : (ΛP (F := F)).Label, (ΛP (F := F)).Args ℓ) := (sc (F := F)).seq
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev vD : 𝒱.V := Sum.inr 0
theorem v₀_lt_vD : 𝒱.lt v₀ vD := Sum.Lex.sep _ _

/-- What the launch asks of the call's own semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

abbrev xLoc (d : Dev nD) : Loc nD τ sig := (SparseCore.T d).loc main_arg0
abbrev oLoc (d : Dev nD) : Loc nD τ sig := (SparseCore.T d).loc main_v0

/-! ## The result -/

/-- The array with its first four words replaced. -/
def gold [FloatOps F] (f : S16777216.Idx → Elt F .f32) : S16777216.Idx → Elt F .f32 := fun i =>
  if (i 0).val = 0 then (Scalar.ofBits .f32 0x41200000#32 : F .f32)
  else if (i 0).val = 1 then (Scalar.ofBits .f32 0x41F00000#32 : F .f32)
  else if (i 0).val = 2 then (Scalar.ofBits .f32 0x41A00000#32 : F .f32)
  else if (i 0).val = 3 then (Scalar.ofBits .f32 0x42200000#32 : F .f32)
  else f i

/-- Past the first four words, `gold` is the argument. -/
theorem gold_of_le [FloatOps F] (f : S16777216.Idx → Elt F .f32) (i : S16777216.Idx) (h : 4 ≤ (i 0).val) : gold f i = f i := by
  unfold gold
  rw [if_neg (by omega), if_neg (by omega), if_neg (by omega), if_neg (by omega)]

/-! ## The pieces of the arrays -/

def coordsS (c : Fin (grid1.bound 0)) : grid1.Coords :=
  fun | 0 => c | ⟨_ + 1, h⟩ => absurd h (Nat.not_lt.2 (Nat.le_add_left _ _))

def coordsV (c : Fin (grid0.bound 0)) (s : Fin (grid0.bound 1)) : grid0.Coords :=
  fun | 0 => c | 1 => s | ⟨_ + 2, h⟩ => absurd h (Nat.not_lt.2 (Nat.le_add_left _ _))

/-- The words of chunk `k` of core `c`. -/
abbrev chSet (c : Fin 2) (k : Fin 64) : Finset S16777216.Idx := (chRect (coordsS c) k).set

/-- The words a tile of core `c` moves. -/
def headSet (c : Fin 2) : Finset S16777216.Idx :=
  (Rect.unit (s := S16777216) ![8388608 * c.val] S128.size (fun a => by fin_cases a; have := c.isLt; show 8388608 * c.val + 128 ≤ 16777216; omega)).set

variable (m : (ℓ : Loc nD τ sig) → Buf (Elt F) ℓ)

/-- The pieces of both arrays over a set of words: the argument as launched, the result array at `f`. -/
def piece (d : Dev nD) (I : Finset S16777216.Idx) (f : S16777216.Idx → Elt F .f32) : sProp 𝕄 :=
  iprop((xLoc d ↦[I]{fullShare} m (xLoc d)) ∗ (oLoc d ↦[I]{fullShare} (f : Buf (Elt F) (oLoc d))))

/-- All of one core's share. -/
def share (d : Dev nD) (c : Fin 2) (f : S16777216.Idx → Elt F .f32) : sProp 𝕄 :=
  iprop(piece m d (headSet c) f ∗ bigSep Finset.univ fun k : Fin 64 => piece m d (chSet c k) f)

end Cert.Proof
end
-- ==== Proof.Seq.lean ====
/-
  The sequencer's schedule run: for each chunk how far it has come, for each buffer whether it is free, and one lemma per kind of step.
-/
module

public import proofs.«01_k».proof.Proof.Setup

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The schedule, checked -/

/-- How far a chunk has come. -/
inductive Phase where
  | todo | loading | loaded | storing | done
deriving DecidableEq

/-- The buffer chunk `k` goes through, by name: one of the fourteen, or (`none`) the first chunk's own. -/
def slot : ℕ → Option (Fin 14)
  | 0 => none
  | k + 1 => some (Fin.ofNat 14 (k + 1))

/-- Where all the chunks are, and which buffers are free. -/
structure St where
  ph : Fin 64 → Phase
  fr : Option (Fin 14) → Bool

/-- The state with one chunk moved on, or one buffer taken or freed. -/
def St.setPh (s : St) (k : Fin 64) (p : Phase) : St := ⟨fun j => if j = k then p else s.ph j, s.fr⟩
def St.setFr (s : St) (x : Option (Fin 14)) (b : Bool) : St := ⟨s.ph, fun y => if y = x then b else s.fr y⟩

/-- What one event does, where it may happen at all: a copy in needs its buffer free, a copy out its chunk loaded, a wait its copy under way. -/
def step (s : St) : Ev → Option St
  | .startIn k => if s.ph k = .todo ∧ s.fr (slot k.val) = true then some ((s.setPh k .loading).setFr (slot k.val) false) else none
  | .waitIn k => if s.ph k = .loading then some (s.setPh k .loaded) else none
  | .startOut k => if s.ph k = .loaded then some (s.setPh k .storing) else none
  | .waitOut k => if s.ph k = .storing ∧ s.fr (slot k.val) = false then some ((s.setPh k .done).setFr (slot k.val) true) else none

/-- The events of a list, one after another. -/
def runs : St → List Ev → Option St
  | s, [] => some s
  | s, e :: es => (step s e).bind fun s' => runs s' es

/-- Before the first event: no chunk begun, every buffer free. -/
def st₀ : St := ⟨fun _ => .todo, fun _ => true⟩

/-- After the last: every chunk copied, every buffer free. -/
def St.final (s : St) : Bool := (List.finRange 64).all (fun k => decide (s.ph k = .done)) && (s.fr none && (List.finRange 14).all fun j => s.fr (some j))

set_option maxRecDepth 100000 in
/-- The schedule never asks for what may not happen, and ends so. -/
theorem sched_final : ((runs st₀ sched).map St.final) = some true := by decide +kernel

/-- The same, in words that the run takes. -/
theorem sched_ok : ∃ s, runs st₀ sched = some s ∧ (∀ k, s.ph k = .done) ∧ ∀ x, s.fr x = true := by
  have h := sched_final
  rcases hr : runs st₀ sched with _ | s
  · rw [hr] at h; simp at h
  · rw [hr] at h
    simp only [Option.map_some, Option.some.injEq, St.final, Bool.and_eq_true, List.all_eq_true, List.mem_finRange, forall_const, decide_eq_true_eq] at h
    refine ⟨s, rfl, h.1, fun x => ?_⟩
    rcases x with _ | j
    · exact h.2.1
    · exact h.2.2 j

/-! ## What is held along the way -/

variable (m : (ℓ : Loc nD τ sig) → Buf (Elt F) ℓ) (d : Dev nD) (i : grid1.Coords)

/-- Chunk `k` of the argument; of the result; and a buffer, with its contents. -/
abbrev xc (k : Fin 64) : sProp 𝕄 := (chunkX i k).view.loc (S d (cS i)) ↦[(chunkX i k).view.set]{fullShare} m (xLoc d)
abbrev oc (k : Fin 64) (f : Buf (Elt F) (oLoc d)) : sProp 𝕄 := (chunkO i k).view.loc (S d (cS i)) ↦[(chunkO i k).view.set]{fullShare} f
abbrev bufPts (k : ℕ) (g : Buf (Elt F) ((buf k).view.loc (S d (cS i)))) : sProp 𝕄 := (buf k).view.loc (S d (cS i)) ↦[(buf k).view.set]{fullShare} g

/-- Chunk `k`'s buffer with the chunk in it. -/
def filled (k : Fin 64) : sProp 𝕄 :=
  iprop(∃ g, bufPts d i k.val g ∗ ⌜(buf k.val).view.read (Elt F) g = (chunkX i k).view.read (Elt F) (m (xLoc d))⌝)

/-- A buffer nobody uses, its two semaphores at rest. -/
def freeBuf (k : ℕ) : sProp 𝕄 :=
  iprop((∃ g, bufPts d i k g) ∗ semVal (S d (cS i), .dma (semIn k)) 0 ∗ semVal (S d (cS i), .dma (semOut k)) 0)

/-- Chunk `k` of the result, holding the argument's words. -/
def copied (k : Fin 64) : sProp 𝕄 := oc d i k (m (xLoc d))

/-- What the sequencer holds of chunk `k` at each phase. -/
def holds (k : Fin 64) : Phase → sProp 𝕄
  | .todo => iprop(xc m d i k ∗ oc d i k (m (oLoc d)))
  | .loading => iprop(Transfers.Flight EC (S d (cS i)) (.dma (semIn k.val)) (default : HIx 1) (buf k.val).view.dmaCredit iprop(filled m d i k ∗ xc m d i k)
      ∗ semVal (S d (cS i), .dma (semOut k.val)) 0 ∗ oc d i k (m (oLoc d)))
  | .loaded => iprop(filled m d i k ∗ xc m d i k ∗ semVal (S d (cS i), .dma (semIn k.val)) 0
      ∗ semVal (S d (cS i), .dma (semOut k.val)) 0 ∗ oc d i k (m (oLoc d)))
  | .storing => iprop(Transfers.Flight EC (S d (cS i)) (.dma (semOut k.val)) (default : HIx 1) (chunkO i k).view.dmaCredit iprop(copied m d i k ∗ ∃ g, bufPts d i k.val g)
      ∗ semVal (S d (cS i), .dma (semIn k.val)) 0 ∗ xc m d i k)
  | .done => iprop(xc m d i k ∗ copied m d i k)

/-- The buffer of that name. -/
def slotBuf : Option (Fin 14) → sProp 𝕄
  | none => freeBuf d i 0
  | some j => iprop((∃ g, (ring j).view.loc (S d (cS i)) ↦[(ring j).view.set]{fullShare} g)
      ∗ semVal (S d (cS i), .dma (Fin.ofNat 32 (2 + j.val))) 0 ∗ semVal (S d (cS i), .dma (Fin.ofNat 32 (16 + j.val))) 0)

/-- Chunk `k`'s buffer is the buffer of its name. -/
theorem slotBuf_slot (k : ℕ) : (slotBuf d i (slot k) : sProp 𝕄) = freeBuf d i k := by
  cases k <;> rfl

/-- A buffer is held by itself only while it is free. -/
def slotHeld (x : Option (Fin 14)) (b : Bool) : sProp 𝕄 := if b then slotBuf d i x else iprop(emp)

/-- What the sequencer holds in a state. -/
def inv (s : St) : sProp 𝕄 :=
  iprop((bigSep Finset.univ fun k => holds m d i k (s.ph k)) ∗ bigSep Finset.univ fun x => slotHeld d i x (s.fr x))

/-- One member of a family taken out. -/
theorem bigSep_at {I A : Type} [Fintype I] [DecidableEq I] (Φ : I → A → sProp 𝕄) (f : I → A) (x : I) :
    (bigSep Finset.univ fun j => Φ j (f j)) = iprop(Φ x (f x) ∗ bigSep (Finset.univ.erase x) fun j => Φ j (f j)) :=
  SparseCore.bigSep_erase' (Finset.mem_univ x)

/-- One member of a family replaced. -/
theorem bigSep_set {I A : Type} [Fintype I] [DecidableEq I] (Φ : I → A → sProp 𝕄) (f : I → A) (x : I) (a : A) :
    (bigSep Finset.univ fun j => Φ j (if j = x then a else f j)) = iprop(Φ x a ∗ bigSep (Finset.univ.erase x) fun j => Φ j (f j)) := by
  rw [SparseCore.bigSep_erase' (Finset.mem_univ x), if_pos rfl]
  congr 1
  exact bigSep_congr fun j hj => by rw [if_neg (Finset.ne_of_mem_erase hj)]

/-! ## The copies' words -/

theorem filled_of (k : Fin 64) (g : Buf (Elt F) ((buf k.val).view.loc (S d (cS i)))) :
    (iprop(((buf k.val).view.loc (S d (cS i)) ↦[(buf k.val).view.set]{fullShare} (buf k.val).view.write (Elt F) g
          (ReadAs.same.apply ((chunkX i k).view.read (Elt F) (m (xLoc d)))) Finset.univ)
        ∗ ((chunkX i k).view.loc (S d (cS i)) ↦[(chunkX i k).view.set]{fullShare} m (xLoc d))) : sProp 𝕄)
      ⊢ iprop(filled m d i k ∗ xc m d i k) := by
  unfold filled xc bufPts
  iintro ⟨Hb, Hx⟩
  isplitl [Hb]
  · iexists _
    isplitl [Hb]; · iexact Hb
    ipureintro
    exact View.read_write_univ _ _
  · iexact Hx

/-- A copy out of a buffer with the chunk in it leaves the argument's words in the result. -/
theorem copied_of (k : Fin 64) (g : Buf (Elt F) ((buf k.val).view.loc (S d (cS i)))) (f : Buf (Elt F) (oLoc d))
    (hg : (buf k.val).view.read (Elt F) g = (chunkX i k).view.read (Elt F) (m (xLoc d))) :
    (iprop(((chunkO i k).view.loc (S d (cS i)) ↦[(chunkO i k).view.set]{fullShare} (chunkO i k).view.write (Elt F) f
          (ReadAs.same.apply ((buf k.val).view.read (Elt F) g)) Finset.univ)
        ∗ ((buf k.val).view.loc (S d (cS i)) ↦[(buf k.val).view.set]{fullShare} g)) : sProp 𝕄)
      ⊢ iprop(copied m d i k ∗ ∃ g, bufPts d i k.val g) := by
  unfold copied oc bufPts
  have e : ((chunkO i k).view.loc (S d (cS i)) ↦[(chunkO i k).view.set]{fullShare} (chunkO i k).view.write (Elt F) f
        (ReadAs.same.apply ((buf k.val).view.read (Elt F) g)) Finset.univ : sProp 𝕄)
      = ((chunkO i k).view.loc (S d (cS i)) ↦[(chunkO i k).view.set]{fullShare} (m (xLoc d) : Buf (Elt F) (oLoc d))) := by
    rw [hg]
    refine pointsTo_congr fun j hj => ?_
    obtain ⟨x, -, rfl⟩ := Finset.mem_map.mp hj
    exact View.write_emb_of_mem (v := (chunkO i k).view) _ _ (Finset.mem_univ x)
  iintro ⟨Ho, Hb⟩
  isplitl [Ho]
  · iapply (Entails.of_eq e); iexact Ho
  · iexists g; iexact Hb

/-- No chunk is empty. -/
theorem chShape_pos (k : ℕ) : 0 < (chShape k).numel := by
  refine Shape.numel_pos fun a => ?_
  fin_cases a
  rcases k with _ | k
  · show 0 < 130944; decide
  · show 0 < 131072; decide

/-! ## One event -/

variable [FloatOps F]

/-- A copy in is started. -/
theorem wp_startIn (s : St) (k : Fin 64) (h : s.ph k = .todo ∧ s.fr (slot k.val) = true)
    (P : Prog (TpuEff nD τ sig (Elt F) Λ₀ (.scScalar (cS i))) PUnit) (Q : PUnit → sProp 𝕄) :
    iprop(inv m d i s ∗ (inv m d i ((s.setPh k .loading).setFr (slot k.val) false)
        -∗ wp frame (wpE (defs₀ (F := F)) 𝒱₀ (S d (cS i)) none) Set.univ P Q))
      ⊢ wp frame (wpE (defs₀ (F := F)) 𝒱₀ (S d (cS i)) none) Set.univ (evOp i (.startIn k) >>= fun _ => P) Q := by
  unfold inv
  simp only [St.setPh, St.setFr]
  rw [bigSep_at (holds m d i) s.ph k, bigSep_set (holds m d i) s.ph k, bigSep_at (slotHeld d i) s.fr (slot k.val), bigSep_set (slotHeld d i) s.fr (slot k.val),
    h.1, h.2]
  simp only [slotHeld, if_true, slotBuf_slot, holds, Bool.false_eq_true, if_false, freeBuf]
  simp only [evOp, Prog.lift, Prog.bind_op, Prog.bind_ret]
  iintro ⟨⟨⟨⟨Hx, Ho⟩, Hc⟩, ⟨⟨⟨%g, Hb⟩, Hi, Hs⟩, Hf⟩⟩, Hk⟩
  iapply (Transfers.wp_dmaLocal EC 𝒱₀ (S d (cS i)) none (src := chunkX i k) (via := .same) (dst := buf k.val) (q := fullShare) (fs := m (xLoc d)) (fd := g)
    (default : HIx 1) (buf k.val).view.dmaCredit rfl (View.dmaCredit_pos _ (chShape_pos _)) (Finset.Subset.refl _)) $$ [Hx Hb Hi]
  · isplitl [Hx]; · iexact Hx
    isplitl [Hb]; · iexact Hb
    iexact Hi
  iintro Hfl
  iapply Hk
  isplitr [Hf]
  · isplitr [Hc]
    · isplitl [Hfl]
      · iapply (Transfers.Flight_mono EC (S d (cS i)) (filled_of m d i k g)); iexact Hfl
      isplitl [Hs]; · iexact Hs
      iexact Ho
    · iexact Hc
  · isplitr; · iempintro
    iexact Hf

/-- A copy out is started. -/
theorem wp_startOut (s : St) (k : Fin 64) (h : s.ph k = .loaded)
    (P : Prog (TpuEff nD τ sig (Elt F) Λ₀ (.scScalar (cS i))) PUnit) (Q : PUnit → sProp 𝕄) :
    iprop(inv m d i s ∗ (inv m d i (s.setPh k .storing)
        -∗ wp frame (wpE (defs₀ (F := F)) 𝒱₀ (S d (cS i)) none) Set.univ P Q))
      ⊢ wp frame (wpE (defs₀ (F := F)) 𝒱₀ (S d (cS i)) none) Set.univ (evOp i (.startOut k) >>= fun _ => P) Q := by
  unfold inv
  simp only [St.setPh]
  rw [bigSep_at (holds m d i) s.ph k, bigSep_set (holds m d i) s.ph k, h]
  simp only [holds, filled]
  simp only [evOp, Prog.lift, Prog.bind_op, Prog.bind_ret]
  iintro ⟨⟨⟨⟨⟨%g, Hb, %hg⟩, Hx, Hi, Hs, Ho⟩, Hc⟩, Hf⟩, Hk⟩
  iapply (Transfers.wp_dmaLocal EC 𝒱₀ (S d (cS i)) none (src := buf k.val) (via := .same) (dst := chunkO i k) (q := fullShare) (fs := g) (fd := m (oLoc d))
    (default : HIx 1) (chunkO i k).view.dmaCredit rfl (View.dmaCredit_pos _ (chShape_pos _)) (Finset.Subset.refl _)) $$ [Hb Ho Hs]
  · isplitl [Hb]; · iexact Hb
    isplitl [Ho]; · iexact Ho
    iexact Hs
  iintro Hfl
  iapply Hk
  isplitr [Hf]
  · isplitr [Hc]
    · isplitl [Hfl]
      · iapply (Transfers.Flight_mono EC (S d (cS i)) (copied_of m d i k g (m (oLoc d)) hg)); iexact Hfl
      isplitl [Hi]; · iexact Hi
      iexact Hx
    · iexact Hc
  · iexact Hf

/-- What the sequencer owes stays; the waits recorded since are its copies'. -/
abbrev owing (O : CellTallies nD τ sig (HIx 1)) (W : Waits sig (HIx 1)) : sProp 𝕄 :=
  iprop(∃ W', ⌜∀ p ∈ W', p ∈ W ∨ p.2 = none⌝ ∗ owes (S d (cS i)) O W')

/-- A wait for a copy may be recorded. -/
theorem owing_insert (O : CellTallies nD τ sig (HIx 1)) (W W' : Waits sig (HIx 1)) (sm : SemLoc sig) (h : ∀ p ∈ W', p ∈ W ∨ p.2 = none) :
    (owes (S d (cS i)) O (insert (sm, (default : HIx 1)) W') : sProp 𝕄) ⊢ owing d i O W := by
  iintro HO
  iexists _; isplitr
  swap; · iexact HO
  ipureintro; intro p hp
  rcases Finset.mem_insert.mp hp with rfl | hp
  · exact .inr rfl
  · exact h p hp

/-- A copy in is waited for: the chunk is in its buffer. -/
theorem wp_waitIn (O : CellTallies nD τ sig (HIx 1)) (W : Waits sig (HIx 1)) (s : St) (k : Fin 64) (h : s.ph k = .loading)
    (P : Prog (TpuEff nD τ sig (Elt F) Λ₀ (.scScalar (cS i))) PUnit) (Q : PUnit → sProp 𝕄) :
    iprop(inv m d i s ∗ Transfers.MayWaits (S d (cS i)) (default : HIx 1) O ∗ owing d i O W
        ∗ ((inv m d i (s.setPh k .loaded) ∗ owing d i O W) -∗ wp frame (wpE (defs₀ (F := F)) 𝒱₀ (S d (cS i)) none) Set.univ P Q))
      ⊢ wp frame (wpE (defs₀ (F := F)) 𝒱₀ (S d (cS i)) none) Set.univ (evOp i (.waitIn k) >>= fun _ => P) Q := by
  unfold inv
  simp only [St.setPh]
  rw [bigSep_at (holds m d i) s.ph k, bigSep_set (holds m d i) s.ph k, h]
  simp only [holds]
  simp only [evOp, Prog.lift, Prog.bind_op, Prog.bind_ret]
  iintro ⟨⟨⟨⟨Hfl, Hs, Ho⟩, Hc⟩, Hf⟩, Hmw, HO, Hk⟩
  icases HO with ⟨%W', %hW', HO⟩
  iapply (Transfers.wp_waitLocalO EC 𝒱₀ (S d (cS i)) none (dstw := buf k.val) (default : HIx 1) (N := (buf k.val).view.dmaCredit) rfl
    (D := iprop(filled m d i k ∗ xc m d i k)) (O := O) (W := W')) $$ [Hfl HO Hmw]
  · isplitl [Hfl]; · iexact Hfl
    isplitl [HO]; · iexact HO
    iapply (Transfers.MayWaits.elim (SemLoc.dma (semIn k.val))); iexact Hmw
  iintro ⟨⟨Hfi, Hx⟩, Hi, HO⟩
  iapply Hk
  isplitr [HO]
  · isplitr [Hf]
    · isplitr [Hc]
      · isplitl [Hfi]; · iexact Hfi
        isplitl [Hx]; · iexact Hx
        isplitl [Hi]; · iexact Hi
        isplitl [Hs]; · iexact Hs
        iexact Ho
      · iexact Hc
    · iexact Hf
  · iapply (owing_insert d i O W W' _ hW'); iexact HO

/-- A copy out is waited for: the chunk is in the result, its buffer free. -/
theorem wp_waitOut (O : CellTallies nD τ sig (HIx 1)) (W : Waits sig (HIx 1)) (s : St) (k : Fin 64) (h : s.ph k = .storing ∧ s.fr (slot k.val) = false)
    (P : Prog (TpuEff nD τ sig (Elt F) Λ₀ (.scScalar (cS i))) PUnit) (Q : PUnit → sProp 𝕄) :
    iprop(inv m d i s ∗ Transfers.MayWaits (S d (cS i)) (default : HIx 1) O ∗ owing d i O W
        ∗ ((inv m d i ((s.setPh k .done).setFr (slot k.val) true) ∗ owing d i O W) -∗ wp frame (wpE (defs₀ (F := F)) 𝒱₀ (S d (cS i)) none) Set.univ P Q))
      ⊢ wp frame (wpE (defs₀ (F := F)) 𝒱₀ (S d (cS i)) none) Set.univ (evOp i (.waitOut k) >>= fun _ => P) Q := by
  unfold inv
  simp only [St.setPh, St.setFr]
  rw [bigSep_at (holds m d i) s.ph k, bigSep_set (holds m d i) s.ph k, bigSep_at (slotHeld d i) s.fr (slot k.val), bigSep_set (slotHeld d i) s.fr (slot k.val),
    h.1, h.2]
  simp only [slotHeld, if_true, slotBuf_slot, holds, Bool.false_eq_true, if_false, freeBuf]
  simp only [evOp, Prog.lift, Prog.bind_op, Prog.bind_ret]
  iintro ⟨⟨⟨⟨Hfl, Hi, Hx⟩, Hc⟩, ⟨-, Hf⟩⟩, Hmw, HO, Hk⟩
  icases HO with ⟨%W', %hW', HO⟩
  iapply (Transfers.wp_waitLocalO EC 𝒱₀ (S d (cS i)) none (dstw := chunkO i k) (default : HIx 1) (N := (chunkO i k).view.dmaCredit) rfl
    (D := iprop(copied m d i k ∗ ∃ g, bufPts d i k.val g)) (O := O) (W := W')) $$ [Hfl HO Hmw]
  · isplitl [Hfl]; · iexact Hfl
    isplitl [HO]; · iexact HO
    iapply (Transfers.MayWaits.elim (SemLoc.dma (semOut k.val))); iexact Hmw
  iintro ⟨⟨Hco, Hb⟩, Hs, HO⟩
  iapply Hk
  isplitr [HO]
  · isplitr [Hf Hb Hi Hs]
    · isplitr [Hc]
      · isplitl [Hx]; · iexact Hx
        iexact Hco
      · iexact Hc
    · isplitr [Hf]
      · isplitl [Hb]; · iexact Hb
        isplitl [Hi]; · iexact Hi
        iexact Hs
      · iexact Hf
  · iapply (owing_insert d i O W W' _ hW'); iexact HO

/-! ## The whole schedule -/

theorem wp_event (O : CellTallies nD τ sig (HIx 1)) (W : Waits sig (HIx 1)) (s s' : St) (e : Ev) (h : step s e = some s')
    (P : Prog (TpuEff nD τ sig (Elt F) Λ₀ (.scScalar (cS i))) PUnit) (Q : PUnit → sProp 𝕄) :
    iprop(inv m d i s ∗ Transfers.MayWaits (S d (cS i)) (default : HIx 1) O ∗ owing d i O W
        ∗ ((inv m d i s' ∗ owing d i O W) -∗ wp frame (wpE (defs₀ (F := F)) 𝒱₀ (S d (cS i)) none) Set.univ P Q))
      ⊢ wp frame (wpE (defs₀ (F := F)) 𝒱₀ (S d (cS i)) none) Set.univ (evOp i e >>= fun _ => P) Q := by
  cases e with
  | startIn k =>
    simp only [step] at h; split at h <;> cases h; rename_i hp
    iintro ⟨Hinv, -, HO, Hk⟩
    iapply (wp_startIn m d i s k hp P Q)
    isplitl [Hinv]; · iexact Hinv
    iintro Hinv
    iapply Hk
    isplitl [Hinv]; · iexact Hinv
    iexact HO
  | waitIn k =>
    simp only [step] at h; split at h <;> cases h; rename_i hp
    exact wp_waitIn m d i O W s k hp P Q
  | startOut k =>
    simp only [step] at h; split at h <;> cases h; rename_i hp
    iintro ⟨Hinv, -, HO, Hk⟩
    iapply (wp_startOut m d i s k hp P Q)
    isplitl [Hinv]; · iexact Hinv
    iintro Hinv
    iapply Hk
    isplitl [Hinv]; · iexact Hinv
    iexact HO
  | waitOut k =>
    simp only [step] at h; split at h <;> cases h; rename_i hp
    exact wp_waitOut m d i O W s k hp P Q

/-- A list of events that may happen runs. -/
theorem wp_events (O : CellTallies nD τ sig (HIx 1)) (W : Waits sig (HIx 1)) (es : List Ev) (s s' : St) (h : runs s es = some s') :
    iprop(inv m d i s ∗ Transfers.MayWaits (S d (cS i)) (default : HIx 1) O ∗ owing d i O W)
      ⊢ wp frame (wpE (defs₀ (F := F)) 𝒱₀ (S d (cS i)) none) Set.univ (evProg i es) fun _ => iprop(inv m d i s' ∗ owing d i O W) := by
  induction es generalizing s with
  | nil =>
    cases h
    simp only [evProg, wp_pure]
    iintro ⟨Hinv, -, HO⟩
    imodintro
    isplitl [Hinv] <;> iassumption
  | cons e es ih =>
    simp only [runs] at h
    obtain ⟨s₁, h₁, h₂⟩ := Option.bind_eq_some_iff.mp h
    simp only [evProg]
    iintro ⟨Hinv, #Hmw, HO⟩
    iapply (wp_event m d i O W s s₁ e h₁ (evProg i es) _)
    isplitl [Hinv]; · iexact Hinv
    isplitr; · iexact Hmw
    isplitl [HO]; · iexact HO
    iintro ⟨Hinv, HO⟩
    iapply (ih s₁ h₂)
    isplitl [Hinv]; · iexact Hinv
    isplitr; · iexact Hmw
    iexact HO

end Cert.Proof
end
-- ==== Proof.Own.lean ====
/-
  The sequencer's own buffers and semaphores, slot by slot, and its whole body run from them.
-/
module

public import proofs.«01_k».proof.Proof.Seq

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The sequencer's buffers and semaphores, out of all it owns -/

def slotRef : Option (Fin 14) → Ref sig .scScalar
  | none => cc0_scratch14
  | some j => (ring j).view.ref

/-- The semaphore of the copies into the buffer of that name. -/
def slotIn : Option (Fin 14) → DmaSem sig
  | none => semIn 0
  | some j => Fin.ofNat 32 (2 + j.val)

/-- The semaphore of the copies out of it. -/
def slotOut : Option (Fin 14) → DmaSem sig
  | none => semOut 0
  | some j => Fin.ofNat 32 (16 + j.val)

/-- Each of the fourteen is a whole buffer. -/
theorem ring_isWhole (j : Fin 14) : (ring j).IsWhole := by
  fin_cases j <;> exact Memref.isWhole_whole _

variable (d : Dev nD) (c : Fin τ.nSC)

/-- The buffer, as the device names it. -/
abbrev slotDev (x : Option (Fin 14)) : DevRef τ sig := (Proc.scScalar c).devRef (slotRef x)

/-- Different names are different buffers. -/
theorem slotRef_injective : Function.Injective slotRef := by
  have h : ∀ x y, slotRef x = slotRef y → x = y := by decide
  exact fun x y => h x y

theorem slotDev_injective : Function.Injective (slotDev c) := by
  have h : ∀ (c : Fin τ.nSC) (x y : Option (Fin 14)), slotDev c x = slotDev c y → x = y := by decide
  exact fun x y => h c x y

/-- The buffers are the sequencer's own. -/
theorem slotDev_mem (x : Option (Fin 14)) : slotDev c x ∈ ownRefs (τ := τ) (sig := sig) (.scScalar c) := by
  have h : ∀ (c : Fin τ.nSC) (x : Option (Fin 14)), (slotDev c x).owner.home = Proc.scScalar c := by decide
  exact mem_ownRefs.mpr (h c x)

/-- The two semaphores, as the machine names them. -/
abbrev cellIn (x : Option (Fin 14)) : GSem nD τ sig := (S d c, .dma (slotIn x))
abbrev cellOut (x : Option (Fin 14)) : GSem nD τ sig := (S d c, .dma (slotOut x))

/-- Its DMA semaphores are its own. -/
theorem dma_mem (s : DmaSem sig) : ((S d c, .dma s) : GSem nD τ sig) ∈ ownCells (S d c) :=
  mem_ownCells.mpr ⟨rfl, (show ∀ s : DmaSem sig, (SemLoc.dma s : SemLoc sig).isScoped .scScalar = true by decide) _⟩

/-- No two buffers share a semaphore. -/
theorem cellIn_injective : Function.Injective (cellIn d c) := fun x y e => by
  have h : ∀ x y, slotIn x = slotIn y → x = y := by decide
  exact h x y (SemLoc.dma.inj (Prod.mk.inj e).2)

theorem cellOut_injective : Function.Injective (cellOut d c) := fun x y e => by
  have h : ∀ x y, slotOut x = slotOut y → x = y := by decide
  exact h x y (SemLoc.dma.inj (Prod.mk.inj e).2)

theorem cellIn_ne_cellOut (x y : Option (Fin 14)) : cellIn d c x ≠ cellOut d c y := fun e => by
  have h : ∀ x y, slotIn x ≠ slotOut y := by decide
  exact h x y (SemLoc.dma.inj (Prod.mk.inj e).2)

/-- The buffers it does not use. -/
def restBufs : sProp 𝕄 :=
  bigSep (ownRefs (τ := τ) (sig := sig) (.scScalar c) \ Finset.univ.image (slotDev c)) fun b => iprop(∃ f, ((d, b) : Loc nD τ sig) ↦{fullShare} f)

/-- The semaphores it does not use. -/
def restSems : sProp 𝕄 :=
  bigSep ((ownCells (S d c) \ Finset.univ.image (cellIn d c)) \ Finset.univ.image (cellOut d c)) fun g => semVal g 0

/-- What it owns: the fifteen buffers and the rest. -/
theorem ownBufs_slots :
    (ownBufs (S d c) : sProp 𝕄)
      = iprop((bigSep Finset.univ fun x => iprop(∃ f, ((d, slotDev c x) : Loc nD τ sig) ↦{fullShare} f)) ∗ restBufs d c) := by
  unfold SparseCore.Cfg.ownBufs restBufs
  rw [SparseCore.bigSep_sdiff_split' (t := Finset.univ.image (slotDev c)) (Finset.image_subset_iff.mpr fun x _ => slotDev_mem c x),
    SparseCore.bigSep_image_of_injOn (fun a _ b _ h => slotDev_injective c h)]

/-- What it owns: the thirty semaphores at zero and the rest. -/
theorem ownSems0_slots :
    (ownSems0 (S d c) : sProp 𝕄)
      = iprop((bigSep Finset.univ fun x => semVal (cellIn d c x) 0) ∗ (bigSep Finset.univ fun x => semVal (cellOut d c x) 0) ∗ restSems d c) := by
  unfold SparseCore.Cfg.ownSems0 restSems
  rw [SparseCore.bigSep_sdiff_split' (t := Finset.univ.image (cellIn d c)) (Finset.image_subset_iff.mpr fun x _ => dma_mem d c _),
    SparseCore.bigSep_sdiff_split' (s := ownCells (S d c) \ Finset.univ.image (cellIn d c)) (t := Finset.univ.image (cellOut d c)),
    SparseCore.bigSep_image_of_injOn (fun a _ b _ h => cellIn_injective d c h),
    SparseCore.bigSep_image_of_injOn (fun a _ b _ h => cellOut_injective d c h)]
  refine Finset.image_subset_iff.mpr fun x _ => Finset.mem_sdiff.mpr ⟨dma_mem d c _, fun h => ?_⟩
  obtain ⟨y, -, e⟩ := Finset.mem_image.mp h
  exact cellIn_ne_cellOut d c y x e

/-- A free buffer, spelt by its device name and its semaphores. -/
theorem slotBuf_eq (i : grid1.Coords) (x : Option (Fin 14)) :
    (slotBuf d i x : sProp 𝕄)
      = iprop((∃ f, ((d, slotDev (cS i) x) : Loc nD τ sig) ↦{fullShare} f) ∗ semVal (cellIn d (cS i) x) 0 ∗ semVal (cellOut d (cS i) x) 0) := by
  rcases x with _ | j
  · unfold slotBuf freeBuf bufPts
    rw [show (buf 0).view.set = Finset.univ from (Memref.isWhole_whole cc0_scratch14).set_eq_univ]
    rfl
  · simp only [slotBuf]
    rw [(ring_isWhole j).set_eq_univ]
    rfl

/-- The sequencer's buffers and semaphores, slot by slot. -/
theorem own_slots (i : grid1.Coords) :
    (iprop(ownBufs (S d (cS i)) ∗ ownSems0 (S d (cS i))) : sProp 𝕄)
      ⊣⊢ iprop((bigSep Finset.univ fun x => slotBuf d i x) ∗ restBufs d (cS i) ∗ restSems d (cS i)) := by
  simp only [slotBuf_eq]
  rw [ownBufs_slots, ownSems0_slots, bigSep_sep', bigSep_sep']
  constructor
  · iintro ⟨⟨Hb, Hr⟩, Hi, Ho, Hs⟩
    isplitl [Hb Hi Ho]
    · isplitl [Hb]; · iexact Hb
      isplitl [Hi] <;> iassumption
    · isplitl [Hr] <;> iassumption
  · iintro ⟨⟨Hb, Hi, Ho⟩, Hr, Hs⟩
    isplitl [Hb Hr]
    · isplitl [Hb] <;> iassumption
    · isplitl [Hi]; · iexact Hi
      isplitl [Ho] <;> iassumption

/-! ## The sequencer's function -/

variable (m : (ℓ : Loc nD τ sig) → Buf (Elt F) ℓ) [FloatOps F]

/-- The sequencer's body, from its own resources and its chunks of the argument: its chunks of the result hold the argument's words. -/
theorem seq_run (i : grid1.Coords) (O : CellTallies nD τ sig (HIx 1)) (W : Waits sig (HIx 1)) :
    iprop(((bigSep Finset.univ fun k => iprop(xc m d i k ∗ oc d i k (m (oLoc d)))) ∗ ownBufs (S d (cS i)) ∗ ownSems0 (S d (cS i)))
        ∗ Transfers.MayWaits (S d (cS i)) (default : HIx 1) O ∗ owes (S d (cS i)) O W)
      ⊢ wp frame (wpE (defs₀ (F := F)) 𝒱₀ (S d (cS i)) none) Set.univ (evProg i sched)
          fun _ => iprop((bigSep Finset.univ fun k => iprop(xc m d i k ∗ oc d i k (m (xLoc d)))) ∗ ownBufs (S d (cS i)) ∗ ownSems0 (S d (cS i)) ∗ owing d i O W) := by
  obtain ⟨s, hs, hph, hfr⟩ := sched_ok
  iintro ⟨⟨Hc, Hown⟩, #Hmw, HO⟩
  ihave Hown' := (own_slots (F := F) d i).1 $$ Hown
  icases Hown' with ⟨Hsl, Hr⟩
  iapply (wp_wand_r Idealize.ShloMosaic.frame (wpE (defs₀ (F := F)) 𝒱₀ (S d (cS i)) none) Set.univ)
  isplitl [Hc Hsl HO]
  · iapply (wp_events m d i O W sched st₀ s hs)
    isplitl [Hc Hsl]
    · unfold inv
      isplitl [Hc]
      · iexact Hc
      · iexact Hsl
    isplitr; · iexact Hmw
    iexists W
    isplitr
    · ipureintro; exact fun p hp => .inl hp
    · iexact HO
  iintro %_ ⟨Hinv, HO⟩
  unfold inv
  simp only [hph, hfr, slotHeld, if_true, holds, copied]
  icases Hinv with ⟨Hc, Hsl⟩
  isplitl [Hc]; · iexact Hc
  ihave Hown := (own_slots (F := F) d i).2 $$ [Hsl Hr]
  · isplitl [Hsl] <;> iassumption
  icases Hown with ⟨Hb, Hs⟩
  isplitl [Hb]; · iexact Hb
  isplitl [Hs]; · iexact Hs
  iexact HO

end Cert.Proof
end
-- ==== Proof.TileVal.lean ====
/-
  What the tile's body computes: the words it moves, and the four that it sets on core 0.
-/
module

public import proofs.«01_k».proof.Proof.Setup
public import Idealize.ShloMosaic.Lib.WritesUnit
public import Idealize.ShloMosaic.Lib.Exec.Geometry
public import Idealize.ShloMosaic.Lib.WordCmp
public import Idealize.ShloMosaic.Lib.Pipeline.Value
public import Idealize.ShloMosaic.Lib.Pointwise.ElementwiseCore

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Which tiles move anything, and what -/

theorem cond1_iff (L : grid0.Coords) : k0_cond1 L = 1#1 ↔ (L 1).val = 0 := by
  unfold k0_cond1
  generalize hj : L 1 = j
  have h : ∀ j : Fin 16, (Scalar.cmpi .ne (Scalar.extui (Scalar.cmpi .eq (BitVec.ofNat 32 j.val) 0#32) : BitVec 32) 0#32 = 1#1) ↔ j.val = 0 := by decide
  exact h j

/-- The second condition holds on core 0 only. -/
theorem cond2_iff (c : Fin 2) :
    (Scalar.cmpi .ne (Scalar.extui (Scalar.cmpi .eq (BitVec.ofNat 32 c.val) 0#32) : BitVec 32) 0#32 = 1#1) ↔ c.val = 0 := by
  revert c; decide

/-- A core's first 128 words. -/
abbrev headRect (L : grid0.Coords) (h : k0_cond1 L = 1#1) : Rect S16777216 :=
  Rect.unit (s := S16777216) (k0_off1 L) S128.size (k0_off1_inb L h)

local notation "xV" => (Memref.whole main_arg0_scv : Memref sig Kind.scVector Space.hbm S16777216 EltTy.f32)
local notation "oV" => (Memref.whole main_v0_scv : Memref sig Kind.scVector Space.hbm S16777216 EltTy.f32)
local notation "wV" => (Memref.whole cc0_scoped0 : Memref sig Kind.scVector Space.vmem S128 EltTy.f32)

/-- They, of the argument and of the result. -/
abbrev xHead (L : grid0.Coords) (h : k0_cond1 L = 1#1) : Memref sig .scVector .hbm S128 .f32 := (xV).slice (headRect L h) (fun _ => rfl)
abbrev oHead (L : grid0.Coords) (h : k0_cond1 L = 1#1) : Memref sig .scVector .hbm S128 .f32 := (oV).slice (headRect L h) (fun _ => rfl)

/-- The words that the tile moves are the core's first ones. -/
theorem headRect_set (L : grid0.Coords) (h : k0_cond1 L = 1#1) : (headRect L h).set = headSet (L 0) := by
  unfold headSet
  ext x
  rw [Rect.mem_set_unit, Rect.mem_set_unit, k0_off1_eq]

theorem xHead_set (L : grid0.Coords) (h : k0_cond1 L = 1#1) : (xHead L h).view.set = headSet (L 0) :=
  (View.set_slice_whole _ _).trans (headRect_set L h)
theorem oHead_set (L : grid0.Coords) (h : k0_cond1 L = 1#1) : (oHead L h).view.set = headSet (L 0) :=
  (View.set_slice_whole _ _).trans (headRect_set L h)

variable [FloatOps F] (L : grid0.Coords)

/-! ## What the tile stores -/

/-- The words the tile of core `0` loads and stores in its buffer. -/
abbrev storeRect : Rect S128 := Rect.unit (s := S128) ![0] ![16] inb_S128_S16_0

/-- The sixteen words the tile of core `0` stores: the first four are the new ones, the others as loaded. -/
theorem pay1_apply (v : Vec F S16 .f32) (y : S16.Idx) :
    k0_pay1 v y = if (y 0).val = 0 then (Scalar.ofBits .f32 0x41200000#32 : F .f32)
      else if (y 0).val = 1 then (Scalar.ofBits .f32 0x41F00000#32 : F .f32)
      else if (y 0).val = 2 then (Scalar.ofBits .f32 0x41A00000#32 : F .f32)
      else if (y 0).val = 3 then (Scalar.ofBits .f32 0x42200000#32 : F .f32)
      else v y := by
  have hw : ∀ n : ℕ, n < 4 → IntOp.cmpi .eq (BitVec.ofNat 32 (y 0).val) (BitVec.ofNat 32 n) = BitVec.ofBool (decide ((y 0).val = n)) := fun n hn =>
    WordCmp.cmpi_eq_ofNat (lt_trans (y 0).isLt (by decide)) (lt_trans hn (by decide))
  have hi : iota .scVector S16 32 [0] iota_S16_d0_w32_scVector y = BitVec.ofNat 32 (y 0).val := iota_single_apply _ _ _ _ _ _
  unfold k0_pay1
  simp only [shapeCast_self, ValueIdx.select_apply, cmpi_apply, ValueIdx.broadcast_apply]
  rw [hi, hw 0 (by decide), hw 1 (by decide), hw 2 (by decide), hw 3 (by decide)]
  simp only [WordCmp.select_decide]

/-- The position in the stored words of an index below sixteen. -/
def low (x : S128.Idx) (h : (x 0).val < 16) : S16.Idx := fun | 0 => ⟨(x 0).val, h⟩

/-- The tile's buffer once it holds a core's first words `w` and the sixteen stored ones. -/
theorem read_patched (fs : (wV).view.ty.Contents (Elt F)) (w : S128.Idx → Elt F .f32) (x : S128.Idx) :
    (wV).view.read (Elt F) ((wV).view.writes (Elt F) ((wV).view.write (Elt F) fs w Finset.univ)
        [⟨storeRect, k0_pay1 ((wV).view.readAt (Elt F) storeRect.toLoadRect
          ((wV).view.write (Elt F) fs w Finset.univ))⟩]) x
      = if (x 0).val = 0 then (Scalar.ofBits .f32 0x41200000#32 : F .f32)
        else if (x 0).val = 1 then (Scalar.ofBits .f32 0x41F00000#32 : F .f32)
        else if (x 0).val = 2 then (Scalar.ofBits .f32 0x41A00000#32 : F .f32)
        else if (x 0).val = 3 then (Scalar.ofBits .f32 0x42200000#32 : F .f32)
        else w x := by
  by_cases h : (x 0).val < 16
  · have hx : ∀ a : Fin 1, (x a).val = (![0] : Fin 1 → ℕ) a + ((low x h) a).val := by
      intro a; fin_cases a; exact (Nat.zero_add _).symm
    refine (View.read_writes_cons_unit_of_mem (wV).view _ inb_S128_S16_0 _ [] x (low x h) rfl hx).trans ?_
    rw [pay1_apply, View.readAt_apply, View.read_write_univ]
    have e : storeRect.toLoadRect.idx (low x h) = x := by
      funext a; fin_cases a; exact Fin.ext (by show 0 + 1 * (x 0).val = (x 0).val; omega)
    rw [e]
    rfl
  · refine (View.read_writes_cons_unit_of_not_mem (wV).view _ inb_S128_S16_0 _ [] x rfl 0 (Or.inr (by show 0 + 16 ≤ (x 0).val; omega))).trans ?_
    rw [View.writes_nil, View.read_write_univ, if_neg (by omega), if_neg (by omega), if_neg (by omega), if_neg (by omega)]

/-- Where word `x` of them stands in the array. -/
theorem headRect_emb (h : k0_cond1 L = 1#1) (x : S128.Idx) : ((headRect L h).emb x 0).val = 8388608 * (L 0).val + (x 0).val := by
  show k0_off1 L 0 + 1 * (x 0).val = _
  rw [k0_off1_eq, Nat.one_mul]; rfl

/-- What the copy brings in. -/
theorem read_xHead (h : k0_cond1 L = 1#1) (f : S16777216.Idx → Elt F .f32) (x : S128.Idx) :
    (xHead L h).view.read (Elt F) f x = f ((headRect L h).emb x) := rfl

/-- Core `0`'s tile writes out the result's first words. -/
theorem patched_gold (h : k0_cond1 L = 1#1) (h0 : (L 0).val = 0) (fs : (wV).view.ty.Contents (Elt F)) (f : S16777216.Idx → Elt F .f32) :
    (wV).view.read (Elt F) ((wV).view.writes (Elt F) ((wV).view.write (Elt F) fs ((xHead L h).view.read (Elt F) f) Finset.univ)
        [⟨storeRect, k0_pay1 ((wV).view.readAt (Elt F) storeRect.toLoadRect
          ((wV).view.write (Elt F) fs ((xHead L h).view.read (Elt F) f) Finset.univ))⟩])
      = fun x => gold f ((headRect L h).emb x) := by
  funext x
  have e : ((headRect L h).emb x 0).val = (x 0).val := by rw [headRect_emb, h0]; omega
  rw [read_patched, read_xHead]
  unfold gold
  rw [e]

/-- The other core's tile writes out what it read, which is the result there. -/
theorem plain_gold (h : k0_cond1 L = 1#1) (h0 : (L 0).val ≠ 0) (fs : (wV).view.ty.Contents (Elt F)) (f : S16777216.Idx → Elt F .f32) :
    (wV).view.read (Elt F) ((wV).view.write (Elt F) fs ((xHead L h).view.read (Elt F) f) Finset.univ)
      = fun x => gold f ((headRect L h).emb x) := by
  rw [View.read_write_univ]
  funext x
  rw [read_xHead, gold_of_le _ _ (by rw [headRect_emb]; omega)]

/-- A whole view written once: the buffer's element under an index is the one written there. -/
theorem writes_whole_apply {sig : RefSig} {κ : Kind} {sp : Space} {s : Shape} {e : EltTy} (v : View sig κ sp s e)
    (f : v.ty.Contents (Elt F)) (g : s.Idx → Elt F e) (x : s.Idx) :
    v.writes (Elt F) f [⟨Rect.whole s, g⟩] (v.emb x) = _root_.cast (congrArg (Elt F) v.elt_eq.symm) (g x) := by
  have h := congrFun (View.read_writes_whole v f g) x
  rw [View.read_apply] at h
  rw [← h, cast_cast, cast_eq]

end Cert.Proof
end
-- ==== Proof.Tile.lean ====
/-
  The tile's body run: the first tile of a core writes the core's first 128 words of `gold`, the others do nothing.
-/
module

public import proofs.«01_k».proof.Proof.Own
public import proofs.«01_k».proof.Proof.TileVal

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

local notation "xV" => (Memref.whole main_arg0_scv : Memref sig Kind.scVector Space.hbm S16777216 EltTy.f32)
local notation "oV" => (Memref.whole main_v0_scv : Memref sig Kind.scVector Space.hbm S16777216 EltTy.f32)
local notation "wV" => (Memref.whole cc0_scoped0 : Memref sig Kind.scVector Space.vmem S128 EltTy.f32)

variable (m : (ℓ : Loc nD τ sig) → Buf (Elt F) ℓ) (d : Dev nD) (L : grid0.Coords)

/-- The first words of the argument, as the tile names them. -/
theorem pts_xHead (h : k0_cond1 L = 1#1) (f : Buf (Elt F) (xLoc d)) :
    ((xHead L h).view.loc (V d (cV L) (jV L)) ↦[(xHead L h).view.set]{fullShare} f : sProp 𝕄) = xLoc d ↦[headSet (L 0)]{fullShare} f := by
  rw [xHead_set]
/-- The first words of the result. -/
theorem pts_oHead (h : k0_cond1 L = 1#1) (f : Buf (Elt F) (oLoc d)) :
    ((oHead L h).view.loc (V d (cV L) (jV L)) ↦[(oHead L h).view.set]{fullShare} f : sProp 𝕄) = oLoc d ↦[headSet (L 0)]{fullShare} f := by
  rw [oHead_set]

/-- The tile's own buffer. -/
theorem pts_w (f : Buf (Elt F) ((V d (cV L) (jV L)).loc cc0_scoped0)) :
    ((wV).view.loc (V d (cV L) (jV L)) ↦{fullShare} f : sProp 𝕄) = (V d (cV L) (jV L)).loc cc0_scoped0 ↦{fullShare} f := rfl

/-! ## The tile's buffer and semaphores -/

theorem tileBufs :
    (ownBufs (V d (cV L) (jV L)) : sProp 𝕄)
      = iprop((∃ f, (V d (cV L) (jV L)).loc cc0_scoped0 ↦{fullShare} f)
          ∗ bigSep ((ownRefs (τ := τ) (.scVector (cV L) (jV L))).erase ((Proc.scVector (cV L) (jV L)).devRef cc0_scoped0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L)) (b := (Proc.scVector (cV L) (jV L)).devRef cc0_scoped0) rfl)

/-- The semaphores of its two copies. -/
abbrev fetchCell : GSem nD τ sig := (V d (cV L) (jV L), .dma cc0_scoped1.sem)
abbrev storeCell : GSem nD τ sig := (V d (cV L) (jV L), .dma cc0_scoped2.sem)

/-- The tile's two semaphores, out of all that it owns. -/
theorem tileSems :
    (ownSems0 (V d (cV L) (jV L)) : sProp 𝕄)
      = iprop(semVal (fetchCell d L) 0 ∗ semVal (storeCell d L) 0
          ∗ bigSep (((ownCells (V d (cV L) (jV L))).erase (fetchCell d L)).erase (storeCell d L)) fun g => semVal g 0) := by
  unfold SparseCore.Cfg.ownSems0
  rw [SparseCore.bigSep_erase' ((mem_ownCells (g := fetchCell d L)).mpr ⟨rfl, by
      show (SemLoc.dma cc0_scoped1.sem : SemLoc sig).isScoped .scVector = true; decide⟩),
    SparseCore.bigSep_erase' (Finset.mem_erase.mpr ⟨by simp [fetchCell, storeCell]; decide,
      (mem_ownCells (g := storeCell d L)).mpr ⟨rfl, by
        show (SemLoc.dma cc0_scoped2.sem : SemLoc sig).isScoped .scVector = true; decide⟩⟩)]

variable [FloatOps F]

/-- The tile's part of the result array once `g` is written there. -/
theorem pts_written (h : k0_cond1 L = 1#1) (f : Buf (Elt F) (oLoc d)) (g : S128.Idx → Elt F .f32) (q : S16777216.Idx → Elt F .f32)
    (hg : g = fun x => q ((headRect L h).emb x)) :
    ((oHead L h).view.loc (V d (cV L) (jV L)) ↦[(oHead L h).view.set]{fullShare}
        (oHead L h).view.writes (Elt F) f [⟨Rect.whole S128, g⟩] : sProp 𝕄)
      = (oLoc d ↦[headSet (L 0)]{fullShare} (q : Buf (Elt F) (oLoc d))) := by
  rw [← pts_oHead (F := F) d L h, hg]
  refine pointsTo_congr fun j hj => ?_
  obtain ⟨x, -, rfl⟩ := Finset.mem_map.mp hj
  exact writes_whole_apply (oHead L h).view f _ x

omit [FloatOps F] in
/-- The waits of two copies recorded on top of `W`. -/
theorem recorded (W : Waits sig (HIx 1)) (s t : SemLoc sig) :
    ∀ p ∈ insert (s, (default : HIx 1)) (insert (t, (default : HIx 1)) W), p ∈ W ∨ p.2 = none ∨ p.2 = some (0 : Fin 1) := by
  intro p hp
  rcases Finset.mem_insert.mp hp with hp | hp; · exact .inr (.inl (hp ▸ rfl))
  rcases Finset.mem_insert.mp hp with hp | hp; · exact .inr (.inl (hp ▸ rfl))
  exact .inl hp

/-- The tiles' function on the whole arrays and its own buffers. -/
abbrev tileProg : Prog (TpuEff nD τ sig (Elt F) Λ₀ (.scVector (cV L) (jV L))) PUnit :=
  cc0__vector_body L xV (Memref.isWhole_whole _) oV (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole cc0_scratch14) (Memref.isWhole_whole _)
    wV (Memref.isWhole_whole _) cc0_scoped1 cc0_scoped2

/-- What a tile brings to its run, next to its part of the arrays. -/
abbrev tileKit (O : CellTallies nD τ sig (HIx 1)) (W : Waits sig (HIx 1)) : sProp 𝕄 :=
  iprop(scopedBufs (V d (cV L) (jV L)) ∗ scopedSems0 (V d (cV L) (jV L)) ∗ owes (V d (cV L) (jV L)) O W)

/-- What a tile has after its run, next to its part of the arrays. -/
abbrev tileEnd (O : CellTallies nD τ sig (HIx 1)) (W : Waits sig (HIx 1)) : sProp 𝕄 :=
  iprop(scopedBufs (V d (cV L) (jV L)) ∗ scopedSems0 (V d (cV L) (jV L))
    ∗ ∃ W', ⌜∀ p ∈ W', p ∈ W ∨ p.2 = none ∨ p.2 = some (0 : Fin 1)⌝ ∗ owes (V d (cV L) (jV L)) O W')

/-- Every tile but the first does nothing. -/
theorem tile_idle (h0 : (L 1).val ≠ 0) (O : CellTallies nD τ sig (HIx 1)) (W : Waits sig (HIx 1)) :
    (tileKit (F := F) d L O W) ⊢ wp frame (wpE (defs₀ (F := F)) 𝒱₀ (V d (cV L) (jV L)) none) Set.univ (tileProg L) fun _ => iprop(emp ∗ tileEnd d L O W) := by
  have h1 : ¬ k0_cond1 L = 1#1 := fun h => h0 ((cond1_iff L).mp h)
  simp only [tileProg, cc0__vector_body_eq_skeleton]; unfold cc0__vector_body_skel
  simp only [dif_neg h1]
  iintro ⟨Hbufs, Hsems, HO⟩
  sl_step
  isplitr; · iempintro
  isplitl [Hbufs]; · iexact Hbufs
  isplitl [Hsems]; · iexact Hsems
  iexists W; isplitr
  · ipureintro; exact fun p hp => .inl hp
  · iexact HO

set_option maxHeartbeats 2000000 in
/-- The first tile of core `0` brings its words in, replaces the first four, and writes them out. -/
theorem tile_first (h0 : (L 1).val = 0) (hc : (L 0).val = 0) (O : CellTallies nD τ sig (HIx 1)) (W : Waits sig (HIx 1)) (hF : (K (F := F)).Facts) (hO : ∀ g, O g none = 0) :
    iprop(levAts (K (F := F)).L (K (F := F)).lev ∗ piece m d (headSet (L 0)) (m (oLoc d)) ∗ tileKit d L O W)
      ⊢ wp frame (wpE (defs₀ (F := F)) 𝒱₀ (V d (cV L) (jV L)) none) Set.univ (tileProg L)
          fun _ => iprop(piece m d (headSet (L 0)) (gold (m (xLoc d))) ∗ tileEnd d L O W) := by
  have h1 : k0_cond1 L = 1#1 := (cond1_iff L).mpr h0
  have h2 := (cond2_iff (L 0)).mpr hc
  simp only [tileKit, tileEnd, tileProg, cc0__vector_body_eq_skeleton]; unfold cc0__vector_body_skel
  rw [(K (F := F)).scopedBufs_V hF d (cV L) (jV L), SparseCore.Cfg.scopedSems0_V, tileBufs, tileSems]
  simp only [dif_pos h1, dif_pos h2]
  unfold piece
  iintro ⟨#Hlv, ⟨Hx, Ho⟩, ⟨⟨%fs, Hw⟩, Hbufs⟩, ⟨Hf, Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xHead (F := F) d L h1 _).symm) $$ Hx
  ihave Ho' := (Entails.of_eq (pts_oHead (F := F) d L h1 _).symm) $$ Ho
  ihave Hw' := (Entails.of_eq (pts_w (F := F) d L _).symm) $$ Hw
  sl_exec
  have hv : tile_first.sl.dma3 m d L h1 fs = fun x => gold (m (xLoc d)) ((headRect L h1).emb x) := by
    unfold tile_first.sl.dma3 tile_first.sl.Hw'_1 tile_first.sl.v8_r0 tile_first.sl.dma0
    exact patched_gold L h1 hc fs (m (xLoc d))
  sl_step
  isplitl [Hx' Ho']
  · isplitl [Hx']; · iapply (Entails.of_eq (pts_xHead (F := F) d L h1 _)); iexact Hx'
    iapply (Entails.of_eq (pts_written (F := F) d L h1 (m (oLoc d)) _ _ hv)); iexact Ho'
  isplitl [Hw' Hbufs]
  · isplitl [Hw']; · iexists _; iexact Hw'
    iexact Hbufs
  isplitl [Hf Hs Hsems]
  · isplitl [Hf]; · iexact Hf
    isplitl [Hs]; · iexact Hs
    iexact Hsems
  iexists _; isplitr
  swap; · iexact HO
  ipureintro; exact recorded W _ _

set_option maxHeartbeats 2000000 in
/-- The first tile of the other core brings its words in and writes them out. -/
theorem tile_second (h0 : (L 1).val = 0) (hc : (L 0).val ≠ 0) (O : CellTallies nD τ sig (HIx 1)) (W : Waits sig (HIx 1)) (hF : (K (F := F)).Facts) (hO : ∀ g, O g none = 0) :
    iprop(levAts (K (F := F)).L (K (F := F)).lev ∗ piece m d (headSet (L 0)) (m (oLoc d)) ∗ tileKit d L O W)
      ⊢ wp frame (wpE (defs₀ (F := F)) 𝒱₀ (V d (cV L) (jV L)) none) Set.univ (tileProg L)
          fun _ => iprop(piece m d (headSet (L 0)) (gold (m (xLoc d))) ∗ tileEnd d L O W) := by
  have h1 : k0_cond1 L = 1#1 := (cond1_iff L).mpr h0
  have h2 := fun h => hc ((cond2_iff (L 0)).mp h)
  simp only [tileKit, tileEnd, tileProg, cc0__vector_body_eq_skeleton]; unfold cc0__vector_body_skel
  rw [(K (F := F)).scopedBufs_V hF d (cV L) (jV L), SparseCore.Cfg.scopedSems0_V, tileBufs, tileSems]
  simp only [dif_pos h1, dif_neg h2]
  unfold piece
  iintro ⟨#Hlv, ⟨Hx, Ho⟩, ⟨⟨%fs, Hw⟩, Hbufs⟩, ⟨Hf, Hs, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xHead (F := F) d L h1 _).symm) $$ Hx
  ihave Ho' := (Entails.of_eq (pts_oHead (F := F) d L h1 _).symm) $$ Ho
  ihave Hw' := (Entails.of_eq (pts_w (F := F) d L _).symm) $$ Hw
  sl_exec
  have hv : tile_second.sl.dma0_1 m d L h1 fs = fun x => gold (m (xLoc d)) ((headRect L h1).emb x) := by
    unfold tile_second.sl.dma0_1 tile_second.sl.dma0
    exact plain_gold L h1 hc fs (m (xLoc d))
  sl_step
  isplitl [Hx' Ho']
  · isplitl [Hx']; · iapply (Entails.of_eq (pts_xHead (F := F) d L h1 _)); iexact Hx'
    iapply (Entails.of_eq (pts_written (F := F) d L h1 (m (oLoc d)) _ _ hv)); iexact Ho'
  isplitl [Hw' Hbufs]
  · isplitl [Hw']; · iexists _; iexact Hw'
    iexact Hbufs
  isplitl [Hf Hs Hsems]
  · isplitl [Hf]; · iexact Hf
    isplitl [Hs]; · iexact Hs
    iexact Hsems
  iexists _; isplitr
  swap; · iexact HO
  ipureintro; exact recorded W _ _

/-- A tile's run. -/
theorem tile_body (hF : (K (F := F)).Facts) (O : CellTallies nD τ sig (HIx 1)) (W : Waits sig (HIx 1)) (hO : ∀ g, O g none = 0) :
    iprop(levAts (K (F := F)).L (K (F := F)).lev
        ∗ (if (L 1).val = 0 then piece m d (headSet (L 0)) (m (oLoc d)) else iprop(emp)) ∗ tileKit d L O W)
      ⊢ wp frame (wpE (defs₀ (F := F)) 𝒱₀ (V d (cV L) (jV L)) none) Set.univ (tileProg L)
          fun _ => iprop((if (L 1).val = 0 then piece m d (headSet (L 0)) (gold (m (xLoc d))) else iprop(emp)) ∗ tileEnd d L O W) := by
  by_cases h0 : (L 1).val = 0
  · simp only [if_pos h0]
    by_cases hc : (L 0).val = 0
    · exact tile_first m d L h0 hc O W hF hO
    · exact tile_second m d L h0 hc O W hF hO
  · simp only [if_neg h0]
    iintro ⟨-, -, H⟩
    iapply (tile_idle d L h0 O W); iexact H

end Cert.Proof
end
-- ==== Proof.Split.lean ====
/-
  The two arrays cut into what the cores' tiles and sequencers hold, and put together again.
-/
module

public import proofs.«01_k».proof.Proof.Own

@[expose] public section

noncomputable section

namespace Cert.Proof

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Which words a piece holds -/

/-- The first word of chunk `k` of core `c`. -/
def chLo (c : Fin 2) (k : Fin 64) : ℕ := 8388608 * c.val + 131072 * k.val + (if k.val = 0 then 128 else 0)

/-- A chunk's length. -/
theorem chLen_eq (n : ℕ) : chLen n = if n = 0 then 130944 else 131072 := by
  cases n <;> rfl

theorem chOff_succ (i : grid1.Coords) (k : Fin 64) (h : k.val ≠ 0) :
    chOff i k = k1_off2 i (BitVec.ofNat 32 (131072 + 131072 * (k.val - 1))) := by
  obtain ⟨n, hn⟩ := k
  cases n with
  | zero => exact absurd rfl h
  | succ n => rfl

/-- Chunk `k` of core `c` starts at `chLo c k`. -/
theorem chOff_zero (c : Fin 2) (k : Fin 64) : chOff (coordsS c) k 0 = chLo c k := by
  have hc : (coordsS c 0).val = c.val := rfl
  unfold chLo
  by_cases h : k.val = 0
  · obtain rfl : k = 0 := Fin.ext h
    rw [show chOff (coordsS c) 0 = k1_off1 (coordsS c) from rfl, k1_off1_eq, if_pos h, Matrix.cons_val_zero, hc, h]
  · rw [chOff_succ _ _ h, k1_off2_eq (coordsS c) ⟨k.val - 1, by omega⟩, if_neg h, Matrix.cons_val_zero, hc]
    dsimp only
    omega

/-- And ends where the next begins. -/
theorem chLo_add (c : Fin 2) (k : Fin 64) : chLo c k + chLen k.val = 8388608 * c.val + 131072 * k.val + 131072 := by
  rw [chLen_eq]; unfold chLo
  split <;> omega

/-- The words of a core's first piece. -/
theorem mem_headSet (c : Fin 2) (x : S16777216.Idx) : x ∈ headSet c ↔ 8388608 * c.val ≤ (x 0).val ∧ (x 0).val < 8388608 * c.val + 128 := by
  unfold headSet
  rw [Rect.mem_set_unit]
  exact ⟨fun h => h 0, fun h a => by fin_cases a; exact h⟩

/-- The words of a chunk. -/
theorem mem_chSet (c : Fin 2) (k : Fin 64) (x : S16777216.Idx) :
    x ∈ chSet c k ↔ chLo c k ≤ (x 0).val ∧ (x 0).val < 8388608 * c.val + 131072 * k.val + 131072 := by
  unfold chSet chRect
  rw [Rect.mem_set_unit, ← chLo_add, ← chOff_zero]
  exact ⟨fun h => h 0, fun h a => by fin_cases a; exact h⟩

theorem chLo_ge (c : Fin 2) (k : Fin 64) : 8388608 * c.val + 131072 * k.val ≤ chLo c k ∧ 8388608 * c.val + 128 ≤ chLo c k := by
  unfold chLo; split <;> omega

/-! ## The pieces are the array -/

/-- A core's words: its first ones and its chunks. -/
def coreSet (c : Fin 2) : Finset S16777216.Idx := headSet c ∪ Finset.univ.biUnion fun k : Fin 64 => chSet c k

/-- The words of a core's half. -/
theorem mem_coreSet (c : Fin 2) (x : S16777216.Idx) : x ∈ coreSet c ↔ 8388608 * c.val ≤ (x 0).val ∧ (x 0).val < 8388608 * c.val + 8388608 := by
  unfold coreSet
  simp only [Finset.mem_union, Finset.mem_biUnion, Finset.mem_univ, true_and, mem_headSet, mem_chSet]
  constructor
  · rintro (h | ⟨k, h⟩)
    · omega
    · have := chLo_ge c k; have := k.isLt; omega
  · intro h
    by_cases h' : (x 0).val < 8388608 * c.val + 128
    · exact .inl ⟨h.1, h'⟩
    · refine .inr ⟨⟨((x 0).val - 8388608 * c.val) / 131072, by omega⟩, ?_⟩
      unfold chLo
      dsimp only
      split <;> omega

/-- A core's first words are in no chunk. -/
theorem head_chunks_disjoint (c : Fin 2) : Disjoint (headSet c) (Finset.univ.biUnion fun k : Fin 64 => chSet c k) := by
  rw [Finset.disjoint_left]
  intro x hx hy
  obtain ⟨k, -, hk⟩ := Finset.mem_biUnion.mp hy
  rw [mem_headSet] at hx; rw [mem_chSet] at hk
  have := chLo_ge c k; omega

/-- No word is in two chunks. -/
theorem chunks_disjoint (c : Fin 2) :
    ∀ k ∈ (Finset.univ : Finset (Fin 64)), ∀ k' ∈ (Finset.univ : Finset (Fin 64)), k ≠ k' → Disjoint (chSet c k) (chSet c k') := by
  intro k _ k' _ hne
  rw [Finset.disjoint_left]
  intro x hx hy
  rw [mem_chSet] at hx hy
  have := chLo_ge c k; have := chLo_ge c k'
  exact hne (Fin.ext (by omega))

/-- No word is in both halves. -/
theorem cores_disjoint :
    ∀ c ∈ (Finset.univ : Finset (Fin 2)), ∀ c' ∈ (Finset.univ : Finset (Fin 2)), c ≠ c' → Disjoint (coreSet c) (coreSet c') := by
  intro c _ c' _ hne
  rw [Finset.disjoint_left]
  intro x hx hy
  rw [mem_coreSet] at hx hy
  exact hne (Fin.ext (by omega))

/-- Every word is in a half. -/
theorem cores_cover : (Finset.univ : Finset (Fin 2)).biUnion coreSet = Finset.univ := by
  refine Finset.eq_univ_iff_forall.mpr fun x => Finset.mem_biUnion.mpr ⟨⟨(x 0).val / 8388608, ?_⟩, Finset.mem_univ _, (mem_coreSet _ _).mpr ?_⟩
  · have : (x 0).val < 16777216 := (x 0).isLt
    omega
  · dsimp only; omega

/-- One array, whole, as its pieces. -/
theorem x_pieces (d : Dev nD) (f : Buf (Elt F) (xLoc d)) :
    (xLoc d ↦{fullShare} f : sProp 𝕄) = bigSep Finset.univ fun c : Fin 2 =>
      iprop((xLoc d ↦[headSet c]{fullShare} f) ∗ bigSep Finset.univ fun k : Fin 64 => xLoc d ↦[chSet c k]{fullShare} f) := by
  have h : ∀ c : Fin 2, (xLoc d ↦[coreSet c]{fullShare} f : sProp 𝕄)
      = iprop((xLoc d ↦[headSet c]{fullShare} f) ∗ bigSep Finset.univ fun k : Fin 64 => xLoc d ↦[chSet c k]{fullShare} f) := fun c => by
    unfold coreSet
    rw [← pointsTo_biUnion Finset.univ (ℓ := xLoc d) (fun k : Fin 64 => chSet c k) (chunks_disjoint c)]
    have hu := pointsTo_union (nD := nD) (τ := τ) (sig := sig) (Ix := HIx 1) (Val := Elt F) (Name := ℕ) (U := UU) (Lvl := ℕ) (ℓ := xLoc d) (q := fullShare) (f := f) (head_chunks_disjoint c)
    exact Entails.antisymm hu.1 hu.2
  rw [← bigSep_congr (s := Finset.univ) fun c _ => h c, ← pointsTo_biUnion Finset.univ (ℓ := xLoc d) coreSet cores_disjoint, cores_cover]
  try rfl

/-- The result whole is its pieces. -/
theorem o_pieces (d : Dev nD) (f : Buf (Elt F) (oLoc d)) :
    (oLoc d ↦{fullShare} f : sProp 𝕄) = bigSep Finset.univ fun c : Fin 2 =>
      iprop((oLoc d ↦[headSet c]{fullShare} f) ∗ bigSep Finset.univ fun k : Fin 64 => oLoc d ↦[chSet c k]{fullShare} f) := by
  have h : ∀ c : Fin 2, (oLoc d ↦[coreSet c]{fullShare} f : sProp 𝕄)
      = iprop((oLoc d ↦[headSet c]{fullShare} f) ∗ bigSep Finset.univ fun k : Fin 64 => oLoc d ↦[chSet c k]{fullShare} f) := fun c => by
    unfold coreSet
    rw [← pointsTo_biUnion Finset.univ (ℓ := oLoc d) (fun k : Fin 64 => chSet c k) (chunks_disjoint c)]
    have hu := pointsTo_union (nD := nD) (τ := τ) (sig := sig) (Ix := HIx 1) (Val := Elt F) (Name := ℕ) (U := UU) (Lvl := ℕ) (ℓ := oLoc d) (q := fullShare) (f := f) (head_chunks_disjoint c)
    exact Entails.antisymm hu.1 hu.2
  rw [← bigSep_congr (s := Finset.univ) fun c _ => h c, ← pointsTo_biUnion Finset.univ (ℓ := oLoc d) coreSet cores_disjoint, cores_cover]
  try rfl

variable (m : (ℓ : Loc nD τ sig) → Buf (Elt F) ℓ)

/-- Both arrays, whole, are the two cores' shares. -/
theorem shares (d : Dev nD) (f : S16777216.Idx → Elt F .f32) :
    (bigSep Finset.univ fun c : Fin 2 => share m d c f)
      = (iprop((xLoc d ↦{fullShare} m (xLoc d)) ∗ (oLoc d ↦{fullShare} (f : Buf (Elt F) (oLoc d)))) : sProp 𝕄) := by
  rw [x_pieces, o_pieces, ← bigSep_sep']
  refine bigSep_congr fun c _ => ?_
  unfold share piece
  rw [bigSep_sep']
  refine Entails.antisymm ?_ ?_
  · show (_ : sProp 𝕄) ⊢ _
    iintro ⟨⟨Hx, Ho⟩, Hxs, Hos⟩
    isplitl [Hx Hxs]; · isplitl [Hx] <;> iassumption
    isplitl [Ho] <;> iassumption
  · show (_ : sProp 𝕄) ⊢ _
    iintro ⟨⟨Hx, Hxs⟩, Ho, Hos⟩
    isplitl [Hx Ho]; · isplitl [Hx] <;> iassumption
    isplitl [Hxs] <;> iassumption

/-! ## A chunk as the sequencer names it -/

theorem xc_eq (d : Dev nD) (c : Fin 2) (k : Fin 64) : (xc m d (coordsS c) k : sProp 𝕄) = xLoc d ↦[chSet c k]{fullShare} m (xLoc d) := by
  unfold xc
  rw [show (chunkX (coordsS c) k).view.set = chSet c k from View.set_slice_whole _ _]

/-- A chunk of the result, as the sequencer names it. -/
theorem oc_eq (d : Dev nD) (c : Fin 2) (k : Fin 64) (f : Buf (Elt F) (oLoc d)) :
    (oc d (coordsS c) k f : sProp 𝕄) = oLoc d ↦[chSet c k]{fullShare} f := by
  unfold oc
  rw [show (chunkO (coordsS c) k).view.set = chSet c k from View.set_slice_whole _ _]

/-- The result array in a chunk is the argument there. -/
theorem chunk_gold [FloatOps F] (d : Dev nD) (c : Fin 2) (k : Fin 64) :
    (oLoc d ↦[chSet c k]{fullShare} (m (xLoc d) : Buf (Elt F) (oLoc d)) : sProp 𝕄)
      = oLoc d ↦[chSet c k]{fullShare} (gold (m (xLoc d)) : Buf (Elt F) (oLoc d)) :=
  pointsTo_congr fun j hj => (gold_of_le _ _ (by
    have h := (mem_chSet c k j).mp hj
    have := chLo_ge c k
    omega)).symm

/-- A sequencer's part before the call: its chunks, of the result whatever they hold. -/
theorem chunks_before (d : Dev nD) (c : Fin 2) :
    (bigSep Finset.univ fun k => iprop(xc m d (coordsS c) k ∗ oc d (coordsS c) k (m (oLoc d))) : sProp 𝕄)
      = bigSep Finset.univ fun k : Fin 64 => piece m d (chSet c k) (m (oLoc d)) :=
  bigSep_congr fun k _ => by unfold piece; rw [xc_eq, oc_eq]

/-- And after it: its chunks of the result hold `gold`. -/
theorem chunks_after [FloatOps F] (d : Dev nD) (c : Fin 2) :
    (bigSep Finset.univ fun k => iprop(xc m d (coordsS c) k ∗ oc d (coordsS c) k (m (xLoc d))) : sProp 𝕄)
      = bigSep Finset.univ fun k : Fin 64 => piece m d (chSet c k) (gold (m (xLoc d))) :=
  bigSep_congr fun k _ => by unfold piece; rw [xc_eq, oc_eq, chunk_gold]

/-! ## One tile has the core's first words -/

theorem tiles_head (P : sProp 𝕄) : (bigSep Finset.univ fun j : Fin 16 => if j.val = 0 then P else iprop(emp)) = P := by
  rw [SparseCore.bigSep_erase' (Finset.mem_univ (0 : Fin 16)), if_pos (show ((0 : Fin 16).val = 0) from rfl),
    bigSep_congr (s := Finset.univ.erase (0 : Fin 16)) (Ψ := fun _ => iprop(emp)) fun j hj => if_neg (show ¬ j.val = 0 from fun h => (Finset.mem_erase.mp hj).1 (Fin.ext h)),
    show (bigSep (Finset.univ.erase (0 : Fin 16)) fun _ => iprop(emp)) = (iprop(emp) : sProp 𝕄) from bigSep_emp_const _]
  exact Entails.antisymm sep_emp.1 sep_emp.2

end Cert.Proof
end
-- ==== Proof.Launch.lean ====
/-
  The kernel's run: both bodies on both cores, ending with `gold` of the argument, over any float values.
-/
module

public import proofs.«01_k».proof.Proof.Tile
public import proofs.«01_k».proof.Proof.Split

@[expose] public section

noncomputable section

namespace Cert.Proof

open Cert.KernelIdeal Cert.KernelIdeal.Gen
open Idealize.ShloMosaic
open Idealize.ShloMosaic.SparseCore (S V)
open Idealize.ShloMosaic.SparseCore.Cfg (HIx Pay ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg) [FloatOps F]

/-- The call runs on two SparseCores. -/
theorem nCore_zero : (K (F := F)).nCore 0 = 2 := rfl
/-- It runs on sixteen tiles of each. -/
theorem nSub_zero : (K (F := F)).nSub 0 = 16 := rfl

/-! ## What the call carries -/

/-- A tile's part: the first tile of a core has the core's first words of both arrays. -/
abbrev tilePart (d : Dev nD) (c : Fin 2) (j : Fin 16) (f : S16777216.Idx → Elt F .f32) : sProp 𝕄 :=
  if j.val = 0 then piece m d (headSet c) f else iprop(emp)

/-- The sequencer's part: the core's chunks of both arrays. -/
abbrev seqPart (d : Dev nD) (c : Fin 2) (f : S16777216.Idx → Elt F .f32) : sProp 𝕄 :=
  bigSep Finset.univ fun k : Fin 64 => piece m d (chSet c k) f

instance piece_storable (d : Dev nD) (I : Finset S16777216.Idx) (f : S16777216.Idx → Elt F .f32) :
    BI.Storable (upEmb : UEmb _ 𝕄) (piece m d I f) := by
  unfold piece; infer_instance

instance share_storable (d : Dev nD) (c : Fin 2) (f : S16777216.Idx → Elt F .f32) :
    BI.Storable (upEmb : UEmb _ 𝕄) (share m d c f) := by
  unfold share; infer_instance

instance tilePart_storable (d : Dev nD) (c : Fin 2) (j : Fin 16) (f : S16777216.Idx → Elt F .f32) :
    BI.Storable (upEmb : UEmb _ 𝕄) (tilePart m d c j f) := by
  unfold tilePart; split <;> infer_instance

/-- The one call gives each core its share of both arrays, and takes it back with the result in place. -/
def P : (K (F := F)).Pay (nD := nD) (Val := Elt F) (Name := ℕ) (U := UU) where
  st := fun q d c => match q with | 0 => share m d (Fin.cast nCore_zero c) (m (oLoc d))
  dn := fun q d c => match q with | 0 => share m d (Fin.cast nCore_zero c) (gold (m (xLoc d)))
  go := fun q d c j => match q with | 0 => tilePart m d (Fin.cast nCore_zero c) (Fin.cast nSub_zero j) (m (oLoc d))
  td := fun q d c j => match q with | 0 => tilePart m d (Fin.cast nCore_zero c) (Fin.cast nSub_zero j) (gold (m (xLoc d)))
  x := fun _ _ => iprop(emp)

instance P_storable : (P (F := F) m).IsStorable where
  st q d c := match q with
    | 0 => (inferInstance : BI.Storable (upEmb : UEmb _ 𝕄) (share m d (Fin.cast nCore_zero c) (m (oLoc d))))
  dn q d c := match q with
    | 0 => (inferInstance : BI.Storable (upEmb : UEmb _ 𝕄) (share m d (Fin.cast nCore_zero c) (gold (m (xLoc d)))))
  go q d c j := match q with
    | 0 => (inferInstance : BI.Storable (upEmb : UEmb _ 𝕄) (tilePart m d (Fin.cast nCore_zero c) (Fin.cast nSub_zero j) (m (oLoc d))))
  td q d c j := match q with
    | 0 => (inferInstance : BI.Storable (upEmb : UEmb _ 𝕄) (tilePart m d (Fin.cast nCore_zero c) (Fin.cast nSub_zero j) (gold (m (xLoc d)))))

/-- The sequencer's function signals nobody. -/
abbrev Os (q : Fin 1) (_ : Dev nD) (_ : Fin ((K (F := F)).nCore q)) : CellTallies nD τ sig (HIx 1) := 0

/-- What the sequencer's function starts from: its chunks, its buffers, its semaphores. -/
def Xs (q : Fin 1) (d : Dev nD) (c : Fin ((K (F := F)).nCore q)) : sProp 𝕄 := match q with
  | 0 => iprop(seqPart m d (Fin.cast nCore_zero c) (m (oLoc d)) ∗ ownBufs (S d ((K (F := F)).core 0 c)) ∗ ownSems0 (S d ((K (F := F)).core 0 c)))

/-- What it leaves: its chunks with the result in place, and its buffers. -/
def Ys (q : Fin 1) (d : Dev nD) (c : Fin ((K (F := F)).nCore q)) : sProp 𝕄 := match q with
  | 0 => iprop(seqPart m d (Fin.cast nCore_zero c) (gold (m (xLoc d))) ∗ ownBufs (S d ((K (F := F)).core 0 c)))

/-! ## The tiles' function -/

theorem defs₀_vector (c : Fin τ.nSC) (s : Fin τ.nSub) :
    defs₀ (F := F) (.scVector c s) 0 () = SparseCore.onTile hcore0 hsub0 (fun c s => tileProg (coordsV c s)) ⟨⟩ c s := rfl

set_option maxRecDepth 16384 in
/-- Every tile does what the call asks of it. -/
theorem tileObl (hF : (K (F := F)).Facts) : (K (F := F)).TileObl₃ (D (F := F)) 𝒱 (P m) v₀ 0 := by
  intro d c i O W hO _ _
  have hci : ((K (F := F)).core 0 c).val < grid0.bound 0 ∧ ((K (F := F)).sub 0 i).val < grid0.bound 1 := ⟨c.isLt, i.isLt⟩
  rw [show (P m).ox 0 (V d ((K (F := F)).core 0 c) ((K (F := F)).sub 0 i)) = 0 from rfl, add_zero,
    show (P m).x 0 (V d ((K (F := F)).core 0 c) ((K (F := F)).sub 0 i)) = iprop(emp) from rfl,
    show (P m).gs 0 d c i = scopedSems0 (V d ((K (F := F)).core 0 c) ((K (F := F)).sub 0 i)) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [show (iprop(emp ∗ (P m).go 0 d c i ∗ scopedBufs (V d ((K (F := F)).core 0 c) ((K (F := F)).sub 0 i))
        ∗ scopedSems0 (V d ((K (F := F)).core 0 c) ((K (F := F)).sub 0 i)) ∗ owes (V d ((K (F := F)).core 0 c) ((K (F := F)).sub 0 i)) O W) : sProp 𝕄)
      = _ from Entails.antisymm emp_sep.1 emp_sep.2]
  exact tile_body m d (coordsV ⟨_, hci.1⟩ ⟨_, hci.2⟩) hF O W hO

/-! ## The sequencer's function -/

theorem defs₀_scalar (c : Fin τ.nSC) :
    defs₀ (F := F) (.scScalar c) 1 () = SparseCore.onCore hcore1 (fun c => evProg (F := F) (coordsS c) sched) ⟨⟩ c := by
  have h : (fun c => evProg (F := F) (coordsS c) sched) = fun c => _ := funext fun c => (scalar_eq (F := F) (coordsS c)).symm
  rw [h]; rfl

/-- A sequencer turns its chunks of the argument into the same chunks of the result. -/
theorem seq_body (d : Dev nD) (c : Fin 2) (O : CellTallies nD τ sig (HIx 1)) (W : Waits sig (HIx 1)) (hO : ∀ g, O g none = 0) :
    iprop(levAts (K (F := F)).L (K (F := F)).lev
        ∗ (seqPart m d c (m (oLoc d)) ∗ ownBufs (S d (cS (coordsS c))) ∗ ownSems0 (S d (cS (coordsS c))))
        ∗ owes (S d (cS (coordsS c))) O W)
      ⊢ wp frame (wpE (defs₀ (F := F)) 𝒱₀ (S d (cS (coordsS c))) none) Set.univ (evProg (coordsS c) sched)
          fun _ => iprop((seqPart m d c (gold (m (xLoc d))) ∗ ownBufs (S d (cS (coordsS c)))) ∗ ownSems0 (S d (cS (coordsS c)))
            ∗ ∃ W', ⌜∀ p ∈ W', p ∈ W ∨ p.2 = none ∨ p.2 = some (0 : Fin 1)⌝ ∗ owes (S d (cS (coordsS c))) O W') := by
  unfold seqPart
  rw [← chunks_before, ← chunks_after]
  iintro ⟨#Hlv, Hk, HO⟩
  iapply (wp_wand_r Idealize.ShloMosaic.frame (wpE (defs₀ (F := F)) 𝒱₀ (S d (cS (coordsS c))) none) Set.univ)
  isplitl [Hk HO]
  · iapply (seq_run d m (coordsS c) O W)
    isplitl [Hk]; · iexact Hk
    isplitr
    · iapply ((K (F := F)).mayWaits_none (thr := S d (cS (coordsS c))) hO); iexact Hlv
    · iexact HO
  iintro %_ ⟨Hk, Hb, Hs, ⟨%W', %hW, HO⟩⟩
  isplitl [Hk Hb]; · isplitl [Hk] <;> iassumption
  isplitl [Hs]; · iexact Hs
  iexists W'; isplitr
  · ipureintro; exact fun p hp => (hW p hp).imp_right .inl
  · iexact HO

set_option maxRecDepth 16384 in
/-- Every sequencer does what the call asks of it. -/
theorem seqObl : (K (F := F)).SeqObl₃ (D (F := F)) 𝒱 (Os (F := F)) (Xs m) (Ys m) v₀ 0 (Pipeline.kernel 1) ⟨⟩ := by
  intro d c O W hO _ _
  have hc : ((K (F := F)).core 0 c).val < grid1.bound 0 := c.isLt
  rw [show O + Os (F := F) 0 d c = O from add_zero O]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  rw [defs₀_scalar]; simp only [SparseCore.onCore, hc, ↓reduceDIte]
  exact seq_body m d ⟨_, hc⟩ O W hO

/-! ## The split between the two functions -/

theorem vecSplit : (K (F := F)).VecSplit₃ (P m) (Os (F := F)) (Xs m) (Ys m) 0 := by
  intro d c
  show iprop(emp ∗ share m d (Fin.cast nCore_zero c) (m (oLoc d)) ∗ ownBufs (S d ((K (F := F)).core 0 c)) ∗ cred 0
        ∗ ownSems0 (S d ((K (F := F)).core 0 c)) ∗ bigSep Finset.univ fun i : Fin ((K (F := F)).nSub 0) => scopedSems0 (V d ((K (F := F)).core 0 c) ((K (F := F)).sub 0 i)))
      ⊢ |={Set.univ}=> iprop((bigSep Finset.univ fun i : Fin ((K (F := F)).nSub 0) => scopedSems0 (V d ((K (F := F)).core 0 c) ((K (F := F)).sub 0 i)))
      ∗ (bigSep Finset.univ fun j : Fin 16 => tilePart m d (Fin.cast nCore_zero c) j (m (oLoc d)))
      ∗ iprop(seqPart m d (Fin.cast nCore_zero c) (m (oLoc d)) ∗ ownBufs (S d ((K (F := F)).core 0 c)) ∗ ownSems0 (S d ((K (F := F)).core 0 c)))
      ∗ (iprop((bigSep Finset.univ fun j : Fin 16 => tilePart m d (Fin.cast nCore_zero c) j (gold (m (xLoc d))))
            ∗ iprop(seqPart m d (Fin.cast nCore_zero c) (gold (m (xLoc d))) ∗ ownBufs (S d ((K (F := F)).core 0 c))))
          -∗ iprop(share m d (Fin.cast nCore_zero c) (gold (m (xLoc d))) ∗ ownBufs (S d ((K (F := F)).core 0 c)))))
  rw [tiles_head, tiles_head]
  unfold share
  iintro ⟨-, ⟨Hh, Hk⟩, Hb, -, Hs, Ht⟩
  imodintro
  isplitl [Ht]; · iexact Ht
  isplitl [Hh]; · iexact Hh
  isplitl [Hk Hb Hs]
  · isplitl [Hk]; · iexact Hk
    isplitl [Hb] <;> iassumption
  iintro ⟨Hh, Hk, Hb⟩
  isplitr [Hb]
  · isplitl [Hh] <;> iassumption
  iexact Hb

/-! ## The launch -/

/-- The ghost state at the start: the handshakes' rounds, no transfer. -/
def u₀ : UU := (initOf (K (F := F)).hsCells (K (F := F)).hsToks, 1)

/-- No thread is given anything beside its part. -/
theorem kits_emp : (bigSep Finset.univ fun thr : Thread nD τ => bigSep Finset.univ fun q : Fin 1 => (P (F := F) m).x q thr) = (iprop(emp) : sProp 𝕄) :=
  (bigSep_congr fun _ _ => bigSep_emp_const _).trans (bigSep_emp_const _)

/-- The launch's ghost state, split as the launch theorem takes it. -/
theorem hu₀ : iprop(ownU (u₀ (F := F)) ∗ (P (F := F) m).oxCred ∗ (K (F := F)).freeOn (· ∈ (∅ : Finset (GSem nD τ sig))) ∗ (P (F := F) m).heldSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  rw [kits_emp, show (bigSep Finset.univ fun _ : Dev nD => iprop(emp)) = (iprop(emp) : sProp 𝕄) from bigSep_emp_const _]
  unfold u₀
  iintro ⟨Hu, -, -, -⟩
  ihave H := (ownU_pair _ _) $$ Hu
  icases H with ⟨HH, -⟩
  imodintro
  isplitl [HH]; · iexact HH
  isplitr <;> iempintro

/-- The TensorCore's buffers are the argument and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the program leaves on a device: the argument as it was, the result in its array. -/
abbrev FIN (d : Dev nD) : sProp 𝕄 := iprop((xLoc d ↦{fullShare} m (xLoc d)) ∗ (oLoc d ↦{fullShare} (gold (m (xLoc d)) : Buf (Elt F) (oLoc d))))

/-- What the call hands out is the two arrays whole. -/
theorem st0_eq (d : Dev nD) : (bigSep Finset.univ fun c : Fin ((K (F := F)).nCore 0) => (P m).st 0 d c)
    = iprop((xLoc d ↦{fullShare} m (xLoc d)) ∗ (oLoc d ↦{fullShare} m (oLoc d))) := shares m d (m (oLoc d))
/-- What it gives back is the argument and `gold` of it. -/
theorem dn0_eq (d : Dev nD) : (bigSep Finset.univ fun c : Fin ((K (F := F)).nCore 0) => (P m).dn 0 d c) = FIN m d := shares m d (gold (m (xLoc d)))

/-- The entry function on a device: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  rw [show (sc (F := F)).run (nD := nD) (Val := Elt F) d 0 = (K (F := F)).run d 0 from rfl]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- The final state of a device: the result is `gold` of the argument, which is unchanged. -/
def fq (d : Dev nD) (s' : Phys nD τ sig (Elt F)) : Prop :=
  s'.mem.mem (oLoc d) = (gold (m (xLoc d)) : Buf (Elt F) (oLoc d)) ∧ s'.mem.mem (xLoc d) = m (xLoc d)

/-- The last resources say so of the memory. -/
theorem hfin (d : Dev nD) (s' : Phys nD τ sig (Elt F)) : iprop(FIN m d ∗ SI s') ⊢ (⌜fq m d s'⌝ : sProp 𝕄) := by
  have hx : iprop(FIN m d ∗ SI s') ⊢ (⌜s'.mem.mem (xLoc d) = m (xLoc d)⌝ : sProp 𝕄) := by
    iintro ⟨⟨Hx, -⟩, HSI⟩
    ihave H := (SI_pointsTo_agree (st := s') (ℓ := xLoc d) (I := Finset.univ) (q := fullShare) (f := m (xLoc d))) $$ [HSI Hx]
    · isplitl [HSI] <;> iassumption
    icases H with %hx
    ipureintro; exact funext fun i => hx i (Finset.mem_univ i)
  have ho : iprop(FIN m d ∗ SI s') ⊢ (⌜s'.mem.mem (oLoc d) = (gold (m (xLoc d)) : Buf (Elt F) (oLoc d))⌝ : sProp 𝕄) := by
    iintro ⟨⟨-, Ho⟩, HSI⟩
    ihave H := (SI_pointsTo_agree (st := s') (ℓ := oLoc d) (I := Finset.univ) (q := fullShare) (f := gold (m (xLoc d)))) $$ [HSI Ho]
    · isplitl [HSI] <;> iassumption
    icases H with %ho
    ipureintro; exact funext fun i => ho i (Finset.mem_univ i)
  exact fun w h => ⟨ho w h, hx w h⟩

/-! ## The run -/

/-- What a run ends with: the result, the argument as it was, every semaphore at zero. -/
def QC : PUnit × MemSt nD τ sig (Elt F) → Prop := fun r =>
  (∀ d : Dev nD, r.2.mem (oLoc d) = (gold (m (xLoc d)) : Buf (Elt F) (oLoc d)) ∧ r.2.mem (xLoc d) = m (xLoc d)) ∧ r.2.sem = fun _ => 0

/-- The program's run from any memory, at any float operations. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_scoped₂_quiescent (K := K (F := F)) (D := D (F := F)) (𝒱 := 𝒱) (σ := σ (F := F)) (EH := EH) (P := P m)
    (Os := Os (F := F)) (Xs := Xs m) (Ys := Ys m) facts v₀ vD
    (fun q hq => match q with | 0 => nomatch hq)
    (fun q _ => match q with | 0 => tileObl m facts)
    (fun q d c g ι h => absurd h (by simp))
    (fun q _ => match q with | 0 => vecSplit m)
    (fun q _ => match q with | 0 => SparseCore.Cfg.SeqPartObl₃.of_some (v₁ := v₀) rfl v₀_lt_vD (seqObl m))
    m ρ main (fun _ => iprop(emp)) (FIN m) (u₀ (F := F)) (hu₀ m) (hmain m ρ) (fq m) (hfin m) (QC m) (fun _ h hz => ⟨h, hz⟩)

end Cert.Proof
end
-- ==== Proof.Ref.lean ====
/-
  What the reference computes: the four updates of the scatter land at 0, 2, 1 and 3, so its result is `gold` of its argument,
  over any float values.
-/
module

public import proofs.«01_k».proof.Proof.Setup
public import proofs.«01_k».proof.Proof.Gen.ReferenceIdeal.Run
public import Idealize.ShloMosaic.Lib.Routing.OpsSet
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.ValueIdx

variable {F : FTy → Type} [FloatOps F]

/-- The scatter of four words into the vector. -/
abbrev dims : ScatterDims S16777216 S4x1 S4 := scatter_S16777216_S4x1_S4_n_0_0_1

/-! ## Where an update lands -/

/-- Update `j` starts at its index word, read signed. -/
theorem start_eq (idx : IVec S4x1 32) (j : Fin 4) : dims.start (ix1 j) idx 0 = (idx (ix2 j (0 : Fin 1))).toInt := by
  have hm : (0 : Fin 1) ∈ dims.scatterDimsToOperandDims := List.mem_singleton.2 rfl
  rw [ScatterDims.start, dif_pos hm]
  refine congrArg (fun b => (idx b).toInt) (funext fun b => ?_)
  match b with
  | ⟨0, _⟩ => exact Fin.ext rfl
  | ⟨1, _⟩ => exact Subsingleton.elim (α := Fin 1) _ _

/-- The vector's axis is inserted, so an update has no coordinate of its own on it. -/
theorem window_eq (j : Fin 4) : dims.window (ix1 j) 0 = 0 := rfl

/-- Update `j` lands at entry `i` when its index word, read signed, is `i`. -/
theorem lands_iff (idx : IVec S4x1 32) (j : Fin 4) (i : S16777216.Idx) :
    dims.resultIdx? (ix1 j) idx = some i ↔ (idx (ix2 j (0 : Fin 1))).toInt = ((i 0).val : Int) := by
  rw [← start_eq]
  have hi : ((i 0).val : Int) < (S16777216.size 0 : Nat) := Int.ofNat_lt.2 (i 0).isLt
  have hw := window_eq j
  constructor
  · intro e
    unfold ScatterDims.resultIdx? at e
    split at e
    · next h =>
      have e0 := congrArg Fin.val (congrFun (Option.some.inj e) 0)
      have h0 := (h 0).1
      rw [hw] at h0
      change (dims.start (ix1 j) idx 0 + (dims.window (ix1 j) 0 : Int)).toNat = (i 0).val at e0
      rw [hw] at e0
      omega
    · cases e
  · intro e
    have h : ∀ a : Fin 1, 0 ≤ dims.start (ix1 j) idx a + dims.window (ix1 j) a ∧ dims.start (ix1 j) idx a + dims.window (ix1 j) a < S16777216.size a := fun a => by
      obtain rfl : a = 0 := Subsingleton.elim _ _
      rw [hw, e]
      exact ⟨by omega, by simpa using hi⟩
    unfold ScatterDims.resultIdx?
    rw [dif_pos h]
    refine congrArg some (funext fun a => Fin.ext ?_)
    obtain rfl : a = 0 := Subsingleton.elim (α := Fin 1) _ _
    show (dims.start (ix1 j) idx 0 + (dims.window (ix1 j) 0 : Int)).toNat = (i 0).val
    rw [hw, e]
    omega

/-! ## The index words and the values -/

/-- The list of the indices. -/
abbrev list : IVec S4 32 := fun i => lit0 (S4.rowMajor i)

/-- The index words as the scatter has them: behind the select that adds the length to a negative one. -/
abbrev words : IVec S4x1 32 :=
  broadcastInDim S4x1 ![0] bcast_S4_S4x1_0
    (select (cmpi .slt list (broadcastInDim S4 ![] bcast_S_S4 (constantI S_ 32 0#32)))
      (addi list (broadcastInDim S4 ![] bcast_S_S4 (constantI S_ 32 16777216#32))) list)

/-- The four values. -/
abbrev vals : S4.Idx → F .f32 := fun i => FloatOps.ofBits .f32 (lit1 (S4.rowMajor i))

/-- A position of a vector of four is its own row-major number. -/
theorem pos_eq (j : Fin 4) : S4.rowMajor (ix1 j) = j := Fin.ext (Shape.rowMajor_val_one (ix1 j))

/-- None of the indices is negative, so the select leaves them. -/
theorem words_eq (j : Fin 4) : words (ix2 j (0 : Fin 1)) = lit0 j := by
  have hb : words (ix2 j (0 : Fin 1))
      = Scalar.select (IntOp.cmpi .slt (list (ix1 j)) 0#32) (IntOp.addi (list (ix1 j)) 16777216#32) (list (ix1 j)) := by
    unfold words broadcastInDim
    refine congrArg (fun b => Scalar.select (IntOp.cmpi .slt (list b) 0#32) (IntOp.addi (list b) 16777216#32) (list b)) (funext fun a => ?_)
    match a with
    | ⟨0, _⟩ => rfl
  rw [hb]
  simp only [list, pos_eq]
  match j with
  | 0 => rfl
  | 1 => rfl
  | 2 => rfl
  | 3 => rfl

/-- The value at position `j`. -/
theorem vals_eq (j : Fin 4) : vals (F := F) (ix1 j) = FloatOps.ofBits .f32 (lit1 j) := by
  simp only [vals, pos_eq]

/-! ## The result -/

/-- The scatter leaves `gold` of the vector. -/
theorem scatter_eq (x : S16777216.Idx → F .f32) : Host.scatter dims (fun _ b => b) x words vals = gold x := by
  funext i
  have lands : ∀ j : Fin 4, dims.resultIdx? (ix1 j) words = some i ↔ (lit0 j).toInt = ((i 0).val : Int) := fun j => by
    rw [lands_iff, words_eq]
  have hit : ∀ j : Fin 4, (lit0 j).toInt = ((i 0).val : Int) → Host.scatter dims (fun _ b => b) x words vals i = FloatOps.ofBits .f32 (lit1 j) := fun j hj => by
    refine Routing.scatter_set_hit dims x words vals i _ (fun k hk => ?_) (ix1 j) ((lands j).2 hj)
    rw [eq_ix1 k] at hk ⊢
    have hk' : (lit0 (k 0)).toInt = (lit0 j).toInt := ((lands (k 0)).1 hk).trans hj.symm
    have inj : ∀ a b : Fin 4, (lit0 a).toInt = (lit0 b).toInt → a = b := by decide
    exact (vals_eq (F := F) (k 0)).trans (congrArg (fun a => FloatOps.ofBits .f32 (lit1 a)) (inj _ _ hk'))
  unfold gold
  split
  · next h => exact hit 0 (by rw [h]; rfl)
  split
  · next h => exact hit 2 (by rw [h]; rfl)
  split
  · next h => exact hit 1 (by rw [h]; rfl)
  split
  · next h => exact hit 3 (by rw [h]; rfl)
  refine Routing.scatter_set_miss dims x words vals i fun k hk => ?_
  rw [eq_ix1 k] at hk
  have hk' := (lands (k 0)).1 hk
  have small : ∀ a : Fin 4, (lit0 a).toInt < 4 := by decide
  have := small (k 0)
  omega

/-- The reference ends with `gold` of its argument, the argument unchanged and every counter at zero. -/
theorem run_gold (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v6) = gold (m ((c.tc : Thread nD τ).loc main_arg0))
        ∧ r.2.mem ((c.tc : Thread nD τ).loc main_arg0) = m ((c.tc : Thread nD τ).loc main_arg0))
      ∧ r.2.sem = fun _ => 0 :=
  (θ_run defs _ _).mono (fun r h => ⟨fun c => ⟨(h c).1.trans (scatter_eq _), (h c).2⟩, sem_eq_zero_of_no_sems rfl r.2⟩) (Value.run m ρ)

end Cert.Proof.Ref

end
-- ==== Proof.lean ====
/-
  The proof of `Cert.Claim` (proofs.«01_k».proof.Defs). The kernel's run (Proof/Launch.lean) and the reference's (Proof/Ref.lean)
  are proved once, over any float values, and end with the same function `gold` of the argument; each conjunct below reads one
  of them at its own float values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.Ref

@[expose] public section

noncomputable section

namespace Cert.Proof

open Idealize.ShloMosaic Idealize.SL.Sem

/-! ## The frames -/

/-- The kernel ends with its argument unchanged and every counter at zero. -/
theorem frame_kernel : Cert.quiescent_Kernel := fun m ρ _ =>
  (θ_run Cert.KernelIdeal.defs _ _).mono (fun _ h => ⟨fun c => (h.1 c).2, h.2⟩) (run_main (F := Bits) m ρ)

/-- So does its ideal reading. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference ends with its argument unchanged and every counter at zero. -/
theorem frame_reference : Cert.quiescent_Reference := fun m ρ _ =>
  (θ_run Cert.ReferenceIdeal.defs _ _).mono (fun _ h => ⟨fun c => (h.1 c).2, h.2⟩) (Ref.run_gold (F := Bits) m ρ)

/-- So does its ideal reading. -/
theorem frame_referenceIdeal : Cert.quiescent_ReferenceIdeal := fun m ρ _ =>
  (θ_run Cert.ReferenceIdeal.defs _ _).mono (fun _ h => ⟨fun c => (h.1 c).2, h.2⟩) (Ref.run_gold (F := Ideal) m ρ)

/-! ## The values -/

/-- Over the extended reals, kernel and reference end with `gold` of the argument. -/
theorem algebraic : Cert.algebraic_KernelIdeal_ReferenceIdeal := fun m ρ m' ρ' _ hm =>
  ⟨fun c => gold (m (xLoc c)),
    (θ_run Cert.KernelIdeal.defs _ _).mono (fun _ h => h.1) (run_main (F := Ideal) m ρ),
    (θ_run Cert.ReferenceIdeal.defs _ _).mono (fun _ h c => ⟨(h.1 c).1.trans (congrArg gold (hm c)), (h.1 c).2⟩) (Ref.run_gold (F := Ideal) m' ρ')⟩

/-- Over the machine's words, they do too. -/
theorem bitexact : Cert.bitexact_Kernel_Reference := fun m ρ m' ρ' _ hm =>
  ⟨fun c => gold (F := Bits) (m (xLoc c)),
    (θ_run Cert.KernelIdeal.defs _ _).mono (fun _ h => h.1) (run_main (F := Bits) m ρ),
    (θ_run Cert.ReferenceIdeal.defs _ _).mono (fun _ h c => ⟨(h.1 c).1.trans (congrArg (gold (F := Bits)) (hm c)), (h.1 c).2⟩) (Ref.run_gold (F := Bits) m' ρ')⟩

/-- Everything that is claimed. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
